-- ==== Defs.lean ====
def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_qk [hPre_finite_qk : Cert.Pre_finite_qk.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_qk.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).1 = (fun _ => 1#1)
    ∧ (Cert.Pre_finite_qk.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_qk [hPre_finite_qk : Cert.Pre_finite_qk.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_qk.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).1 = (fun _ => 1#1)
    ∧ (Cert.Pre_finite_qk.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).2 = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnAIdeal_pre_finite_qk [hAttnAIdeal : Cert.AttnAIdeal.Facts] [hPre_finite_qk : Cert.Pre_finite_qk.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_qk m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_AttnARefIdeal_pre_finite_qk [hAttnARefIdeal : Cert.AttnARefIdeal.Facts] [hPre_finite_qk : Cert.Pre_finite_qk.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_qk m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3)
      ∧ r.2.mem ((c.tc : Thread Cert.AttnB.nD Cert.AttnB.τ).loc Cert.AttnB.main_arg4) = m ((c.tc : Thread Cert.AttnB.nD Cert.AttnB.τ).loc Cert.AttnB.main_arg4))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4))
      ∧ r.2.sem = fun _ => 0)

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)) →
    ∃ (v0 : (c : Dev Cert.FrontIdeal.nD) → Buf (Elt Ideal) ((c.tc : Thread Cert.FrontIdeal.nD Cert.FrontIdeal.τ).loc Cert.FrontIdeal.main_v66_0)) (v1 : (c : Dev Cert.FrontIdeal.nD) → Buf (Elt Ideal) ((c.tc : Thread Cert.FrontIdeal.nD Cert.FrontIdeal.τ).loc Cert.FrontIdeal.main_v66_1)) (v2 : (c : Dev Cert.FrontIdeal.nD) → Buf (Elt Ideal) ((c.tc : Thread Cert.FrontIdeal.nD Cert.FrontIdeal.τ).loc Cert.FrontIdeal.main_v66_2)) (v3 : (c : Dev Cert.FrontIdeal.nD) → Buf (Elt Ideal) ((c.tc : Thread Cert.FrontIdeal.nD Cert.FrontIdeal.τ).loc Cert.FrontIdeal.main_v66_3)) (v4 : (c : Dev Cert.FrontIdeal.nD) → Buf (Elt Ideal) ((c.tc : Thread Cert.FrontIdeal.nD Cert.FrontIdeal.τ).loc Cert.FrontIdeal.main_v66_4)) (v5 : (c : Dev Cert.FrontIdeal.nD) → Buf (Elt Ideal) ((c.tc : Thread Cert.FrontIdeal.nD Cert.FrontIdeal.τ).loc Cert.FrontIdeal.main_v66_5)) (v6 : (c : Dev Cert.FrontIdeal.nD) → Buf (Elt Ideal) ((c.tc : Thread Cert.FrontIdeal.nD Cert.FrontIdeal.τ).loc Cert.FrontIdeal.main_v66_6)) (v7 : (c : Dev Cert.FrontIdeal.nD) → Buf (Elt Ideal) ((c.tc : Thread Cert.FrontIdeal.nD Cert.FrontIdeal.τ).loc Cert.FrontIdeal.main_v66_7)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v66_0) = v0 c
          ∧ r.2.mem ((c.tc : Thread Cert.FrontIdeal.nD Cert.FrontIdeal.τ).loc Cert.FrontIdeal.main_v66_1) = v1 c
          ∧ r.2.mem ((c.tc : Thread Cert.FrontIdeal.nD Cert.FrontIdeal.τ).loc Cert.FrontIdeal.main_v66_2) = v2 c
          ∧ r.2.mem ((c.tc : Thread Cert.FrontIdeal.nD Cert.FrontIdeal.τ).loc Cert.FrontIdeal.main_v66_3) = v3 c
          ∧ r.2.mem ((c.tc : Thread Cert.FrontIdeal.nD Cert.FrontIdeal.τ).loc Cert.FrontIdeal.main_v66_4) = v4 c
          ∧ r.2.mem ((c.tc : Thread Cert.FrontIdeal.nD Cert.FrontIdeal.τ).loc Cert.FrontIdeal.main_v66_5) = v5 c
          ∧ r.2.mem ((c.tc : Thread Cert.FrontIdeal.nD Cert.FrontIdeal.τ).loc Cert.FrontIdeal.main_v66_6) = v6 c
          ∧ r.2.mem ((c.tc : Thread Cert.FrontIdeal.nD Cert.FrontIdeal.τ).loc Cert.FrontIdeal.main_v66_7) = v7 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v187) = v0 c
          ∧ r.2.mem ((c.tc : Thread Cert.FrontRefIdeal.nD Cert.FrontRefIdeal.τ).loc Cert.FrontRefIdeal.main_v176) = v1 c
          ∧ r.2.mem ((c.tc : Thread Cert.FrontRefIdeal.nD Cert.FrontRefIdeal.τ).loc Cert.FrontRefIdeal.main_v189) = v2 c
          ∧ r.2.mem ((c.tc : Thread Cert.FrontRefIdeal.nD Cert.FrontRefIdeal.τ).loc Cert.FrontRefIdeal.main_v183) = v3 c
          ∧ r.2.mem ((c.tc : Thread Cert.FrontRefIdeal.nD Cert.FrontRefIdeal.τ).loc Cert.FrontRefIdeal.main_v180) = v4 c
          ∧ r.2.mem ((c.tc : Thread Cert.FrontRefIdeal.nD Cert.FrontRefIdeal.τ).loc Cert.FrontRefIdeal.main_v190) = v5 c
          ∧ r.2.mem ((c.tc : Thread Cert.FrontRefIdeal.nD Cert.FrontRefIdeal.τ).loc Cert.FrontRefIdeal.main_v186) = v6 c
          ∧ r.2.mem ((c.tc : Thread Cert.FrontRefIdeal.nD Cert.FrontRefIdeal.τ).loc Cert.FrontRefIdeal.main_v192) = v7 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7))

def preserves_AttnA_AttnAIdeal : Prop :=
  True

def algebraic_AttnAIdeal_AttnARefIdeal_pre_finite_qk [hAttnAIdeal : Cert.AttnAIdeal.Facts] [hAttnARefIdeal : Cert.AttnARefIdeal.Facts] [hPre_finite_qk : Cert.Pre_finite_qk.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_qk m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)) →
    ∃ (v0 : (c : Dev Cert.AttnAIdeal.nD) → Buf (Elt Ideal) ((c.tc : Thread Cert.AttnAIdeal.nD Cert.AttnAIdeal.τ).loc Cert.AttnAIdeal.main_v0)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v0) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v23) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)) →
    ∃ (v0 : (c : Dev Cert.BackIdeal.nD) → Buf (Elt Ideal) ((c.tc : Thread Cert.BackIdeal.nD Cert.BackIdeal.τ).loc Cert.BackIdeal.main_v15)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v15) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v67) = v0 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7)
          ∧ r.2.mem ((c.tc : Thread Cert.BackRefIdeal.nD Cert.BackRefIdeal.τ).loc Cert.BackRefIdeal.main_arg8) = m' ((c.tc : Thread Cert.BackRefIdeal.nD Cert.BackRefIdeal.τ).loc Cert.BackRefIdeal.main_arg8)
          ∧ r.2.mem ((c.tc : Thread Cert.BackRefIdeal.nD Cert.BackRefIdeal.τ).loc Cert.BackRefIdeal.main_arg9) = m' ((c.tc : Thread Cert.BackRefIdeal.nD Cert.BackRefIdeal.τ).loc Cert.BackRefIdeal.main_arg9)
          ∧ r.2.mem ((c.tc : Thread Cert.BackRefIdeal.nD Cert.BackRefIdeal.τ).loc Cert.BackRefIdeal.main_arg10) = m' ((c.tc : Thread Cert.BackRefIdeal.nD Cert.BackRefIdeal.τ).loc Cert.BackRefIdeal.main_arg10))

def preserves_AttnB_AttnBIdeal : Prop :=
  True

def Claim : Prop :=
  ∃ (hFront : Cert.Front.Facts) (hFrontIdeal : Cert.FrontIdeal.Facts) (hFrontRefIdeal : Cert.FrontRefIdeal.Facts) (hAttnA : Cert.AttnA.Facts) (hAttnAIdeal : Cert.AttnAIdeal.Facts) (hAttnARefIdeal : Cert.AttnARefIdeal.Facts) (hBack : Cert.Back.Facts) (hBackIdeal : Cert.BackIdeal.Facts) (hBackRefIdeal : Cert.BackRefIdeal.Facts) (hAttnB : Cert.AttnB.Facts) (hAttnBIdeal : Cert.AttnBIdeal.Facts) (hPre_finite_qk : Cert.Pre_finite_qk.Facts),
    quiescent_Front (hFront := hFront)
    ∧ quiescent_FrontIdeal (hFrontIdeal := hFrontIdeal)
    ∧ quiescent_FrontRefIdeal (hFrontRefIdeal := hFrontRefIdeal)
    ∧ quiescent_AttnA (hAttnA := hAttnA)
    ∧ quiescent_AttnAIdeal (hAttnAIdeal := hAttnAIdeal)
    ∧ quiescent_AttnAIdeal_pre_finite_qk (hAttnAIdeal := hAttnAIdeal) (hPre_finite_qk := hPre_finite_qk)
    ∧ quiescent_AttnARefIdeal (hAttnARefIdeal := hAttnARefIdeal)
    ∧ quiescent_AttnARefIdeal_pre_finite_qk (hAttnARefIdeal := hAttnARefIdeal) (hPre_finite_qk := hPre_finite_qk)
    ∧ quiescent_Back (hBack := hBack)
    ∧ quiescent_BackIdeal (hBackIdeal := hBackIdeal)
    ∧ quiescent_BackRefIdeal (hBackRefIdeal := hBackRefIdeal)
    ∧ quiescent_AttnB (hAttnB := hAttnB)
    ∧ quiescent_AttnBIdeal (hAttnBIdeal := hAttnBIdeal)
    ∧ preserves_Front_FrontIdeal
    ∧ algebraic_FrontIdeal_FrontRefIdeal (hFrontIdeal := hFrontIdeal) (hFrontRefIdeal := hFrontRefIdeal)
    ∧ preserves_AttnA_AttnAIdeal
    ∧ algebraic_AttnAIdeal_AttnARefIdeal_pre_finite_qk (hAttnAIdeal := hAttnAIdeal) (hAttnARefIdeal := hAttnARefIdeal) (hPre_finite_qk := hPre_finite_qk)
    ∧ preserves_Back_BackIdeal
    ∧ algebraic_BackIdeal_BackRefIdeal (hBackIdeal := hBackIdeal) (hBackRefIdeal := hBackRefIdeal)
    ∧ preserves_AttnB_AttnBIdeal
-- ==== Pre_finite_qk.lean ====
abbrev S4x512x8192 : Shape := ⟨3, ![4, 512, 8192]⟩
abbrev S4x8192x128 : Shape := ⟨3, ![4, 8192, 128]⟩
abbrev S4x64x128x128 : Shape := ⟨4, ![4, 64, 128, 128]⟩
abbrev S_ : Shape := ⟨0, ![]⟩

class Facts : Prop where
  bitsLt_bf16_f32 : FTy.bits .bf16 < FTy.bits .f32
  bcast_S_S4x512x8192 : S_.BroadcastsInDim S4x512x8192 (![] : Fin 0 → Fin S4x512x8192.rank)
  bcast_S_S4x8192x128 : S_.BroadcastsInDim S4x8192x128 (![] : Fin 0 → Fin S4x8192x128.rank)

variable [Facts]

def fn {F : FTy → Type} [FloatOps F] (main_arg0 : FVec F S4x512x8192 .bf16) (main_arg1 : FVec F S4x8192x128 .bf16) (main_arg2 : FVec F S4x64x128x128 .bf16) : IVec S4x512x8192 1 × IVec S4x8192x128 1 :=
  let main_v0 : FVec F S4x512x8192 .f32 := (extf .f32 · bitsLt_bf16_f32) main_arg0
  let main_v1 : FVec F S4x512x8192 .f32 := Host.absf main_v0
  let main_cst : FVec F S_ .f32 := constant S_ .f32 0x7F800000#32
  let main_v2 : FVec F S4x512x8192 .f32 := broadcastInDim S4x512x8192 ![] bcast_S_S4x512x8192 main_cst
  let main_v3 : IVec S4x512x8192 1 := cmpf .olt main_v1 main_v2
  let main_v4 : FVec F S4x8192x128 .f32 := (extf .f32 · bitsLt_bf16_f32) main_arg1
  let main_v5 : FVec F S4x8192x128 .f32 := Host.absf main_v4
  let main_cst_0 : FVec F S_ .f32 := constant S_ .f32 0x7F800000#32
  let main_v6 : FVec F S4x8192x128 .f32 := broadcastInDim S4x8192x128 ![] bcast_S_S4x8192x128 main_cst_0
  let main_v7 : IVec S4x8192x128 1 := cmpf .olt main_v5 main_v6
  (main_v3, main_v7)
-- ==== Front.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3584 : Shape := ⟨3, ![1, 1024, 3584]⟩
abbrev S1x64 : Shape := ⟨2, ![1, 64]⟩
abbrev S1024x3584 : Shape := ⟨2, ![1024, 3584]⟩
abbrev S1024x512 : Shape := ⟨2, ![1024, 512]⟩
abbrev S1024x128 : Shape := ⟨2, ![1024, 128]⟩
abbrev S1024x1024 : Shape := ⟨2, ![1024, 1024]⟩
abbrev S1024x1408 : Shape := ⟨2, ![1024, 1408]⟩
abbrev S1408x1024 : Shape := ⟨2, ![1408, 1024]⟩
abbrev S1024x2176 : Shape := ⟨2, ![1024, 2176]⟩
abbrev S1024 : Shape := ⟨1, ![1024]⟩
abbrev S1024x5632 : Shape := ⟨2, ![1024, 5632]⟩
abbrev S2816x1024 : Shape := ⟨2, ![2816, 1024]⟩
abbrev S64 : Shape := ⟨1, ![64]⟩
abbrev S64x1 : Shape := ⟨2, ![64, 1]⟩
abbrev S128 : Shape := ⟨1, ![128]⟩
abbrev S128x64 : Shape := ⟨2, ![128, 64]⟩
abbrev S8192 : Shape := ⟨1, ![8192]⟩
abbrev S8192x1 : Shape := ⟨2, ![8192, 1]⟩
abbrev S8192x2 : Shape := ⟨2, ![8192, 2]⟩
abbrev S16 : Shape := ⟨1, ![16]⟩
abbrev S_ : Shape := ⟨0, ![]⟩
abbrev S8192x2x1 : Shape := ⟨3, ![8192, 2, 1]⟩
abbrev S1x1x16 : Shape := ⟨3, ![1, 1, 16]⟩
abbrev S8192x2x16 : Shape := ⟨3, ![8192, 2, 16]⟩
abbrev S8192x1x16 : Shape := ⟨3, ![8192, 1, 16]⟩
abbrev S8192x16 : Shape := ⟨2, ![8192, 16]⟩
abbrev S16x8192 : Shape := ⟨2, ![16, 8192]⟩
abbrev S64x8192 : Shape := ⟨2, ![64, 8192]⟩
abbrev S32768x1024 : Shape := ⟨2, ![32768, 1024]⟩
abbrev S4x512x8192 : Shape := ⟨3, ![4, 512, 8192]⟩
abbrev S4x8192x128 : Shape := ⟨3, ![4, 8192, 128]⟩
abbrev S4x64x128x128 : Shape := ⟨4, ![4, 64, 128, 128]⟩
abbrev S32768x2048 : Shape := ⟨2, ![32768, 2048]⟩
abbrev S256x1024 : Shape := ⟨2, ![256, 1024]⟩
abbrev S64x256 : Shape := ⟨2, ![64, 256]⟩
abbrev S1x512x256 : Shape := ⟨3, ![1, 512, 256]⟩
abbrev S1x256x128 : Shape := ⟨3, ![1, 256, 128]⟩
abbrev S1x2x128x128 : Shape := ⟨4, ![1, 2, 128, 128]⟩
abbrev S256x2048 : Shape := ⟨2, ![256, 2048]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S1408x256 : Shape := ⟨2, ![1408, 256]⟩
abbrev S256x2176 : Shape := ⟨2, ![256, 2176]⟩
abbrev S1x256 : Shape := ⟨2, ![1, 256]⟩
abbrev S16x256 : Shape := ⟨2, ![16, 256]⟩
abbrev S1x64x256 : Shape := ⟨3, ![1, 64, 256]⟩
abbrev S128x256 : Shape := ⟨2, ![128, 256]⟩
abbrev S256x128 : Shape := ⟨2, ![256, 128]⟩
abbrev S512x256 : Shape := ⟨2, ![512, 256]⟩
abbrev S128x128 : Shape := ⟨2, ![128, 128]⟩
abbrev S1x1x128x128 : Shape := ⟨4, ![1, 1, 128, 128]⟩

abbrev nBuf : Space → Nat
  | .hbm => 86
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x3584, .f32⟩
  | .hbm, ⟨6, _⟩ => ⟨S1x64, .f32⟩
  | .hbm, ⟨7, _⟩ => ⟨S1x64, .f32⟩
  | .hbm, ⟨8, _⟩ => ⟨S1024x3584, .f32⟩
  | .hbm, ⟨9, _⟩ => ⟨S1024x512, .f32⟩
  | .hbm, ⟨10, _⟩ => ⟨S1024x128, .f32⟩
  | .hbm, ⟨11, _⟩ => ⟨S1024x128, .f32⟩
  | .hbm, ⟨12, _⟩ => ⟨S1024x512, .f32⟩
  | .hbm, ⟨13, _⟩ => ⟨S1024x128, .f32⟩
  | .hbm, ⟨14, _⟩ => ⟨S1024x128, .f32⟩
  | .hbm, ⟨15, _⟩ => ⟨S1024x1024, .f32⟩
  | .hbm, ⟨16, _⟩ => ⟨S1024x1024, .f32⟩
  | .hbm, ⟨17, _⟩ => ⟨S1024x1408, .f32⟩
  | .hbm, ⟨18, _⟩ => ⟨S1408x1024, .f32⟩
  | .hbm, ⟨19, _⟩ => ⟨S1408x1024, .bf16⟩
  | .hbm, ⟨20, _⟩ => ⟨S1024x2176, .f32⟩
  | .hbm, ⟨21, _⟩ => ⟨S1024x2176, .bf16⟩
  | .hbm, ⟨22, _⟩ => ⟨S1024, .f32⟩
  | .hbm, ⟨23, _⟩ => ⟨S1x1024, .f32⟩
  | .hbm, ⟨24, _⟩ => ⟨S1024x5632, .f32⟩
  | .hbm, ⟨25, _⟩ => ⟨S1024x5632, .bf16⟩
  | .hbm, ⟨26, _⟩ => ⟨S2816x1024, .f32⟩
  | .hbm, ⟨27, _⟩ => ⟨S2816x1024, .bf16⟩
  | .hbm, ⟨28, _⟩ => ⟨S1024, .f32⟩
  | .hbm, ⟨29, _⟩ => ⟨S1x1024, .f32⟩
  | .hbm, ⟨30, _⟩ => ⟨S64, .f32⟩
  | .hbm, ⟨31, _⟩ => ⟨S64x1, .f32⟩
  | .hbm, ⟨32, _⟩ => ⟨S64, .f32⟩
  | .hbm, ⟨33, _⟩ => ⟨S64x1, .f32⟩
  | .hbm, ⟨34, _⟩ => ⟨S128, .f32⟩
  | .hbm, ⟨35, _⟩ => ⟨S64, .f32⟩
  | .hbm, ⟨36, _⟩ => ⟨S128x64, .f32⟩
  | .hbm, ⟨37, _⟩ => ⟨S128x64, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x1, .f32⟩
  | .hbm, ⟨42, _⟩ => ⟨S8192x2, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S8192x2x1, .f32⟩
  | .hbm, ⟨58, _⟩ => ⟨S1x1x16, .f32⟩
  | .hbm, ⟨59, _⟩ => ⟨S8192x2x16, .f32⟩
  | .hbm, ⟨60, _⟩ => ⟨S8192x2x16, .f32⟩
  | .hbm, ⟨61, _⟩ => ⟨S8192x2x16, .f32⟩
  | .hbm, ⟨62, _⟩ => ⟨S8192x2x16, .f32⟩
  | .hbm, ⟨63, _⟩ => ⟨S8192x2x16, .f32⟩
  | .hbm, ⟨64, _⟩ => ⟨S8192x1x16, .f32⟩
  | .hbm, ⟨65, _⟩ => ⟨S8192x16, .f32⟩
  | .hbm, ⟨66, _⟩ => ⟨S16x8192, .f32⟩
  | .hbm, ⟨67, _⟩ => ⟨S8192x1x16, .f32⟩
  | .hbm, ⟨68, _⟩ => ⟨S8192x16, .f32⟩
  | .hbm, ⟨69, _⟩ => ⟨S16x8192, .f32⟩
  | .hbm, ⟨70, _⟩ => ⟨S8192x1x16, .f32⟩
  | .hbm, ⟨71, _⟩ => ⟨S8192x16, .f32⟩
  | .hbm, ⟨72, _⟩ => ⟨S16x8192, .f32⟩
  | .hbm, ⟨73, _⟩ => ⟨S8192x1x16, .f32⟩
  | .hbm, ⟨74, _⟩ => ⟨S8192x16, .f32⟩
  | .hbm, ⟨75, _⟩ => ⟨S16x8192, .f32⟩
  | .hbm, ⟨76, _⟩ => ⟨S64x8192, .f32⟩
  | .hbm, ⟨77, _⟩ => ⟨S32768x1024, .f32⟩
  | .hbm, ⟨78, _⟩ => ⟨S32768x1024, .f32⟩
  | .hbm, ⟨79, _⟩ => ⟨S4x512x8192, .bf16⟩
  | .hbm, ⟨80, _⟩ => ⟨S4x8192x128, .bf16⟩
  | .hbm, ⟨81, _⟩ => ⟨S4x64x128x128, .bf16⟩
  | .hbm, ⟨82, _⟩ => ⟨S4x512x8192, .bf16⟩
  | .hbm, ⟨83, _⟩ => ⟨S4x8192x128, .bf16⟩
  | .hbm, ⟨84, _⟩ => ⟨S4x64x128x128, .bf16⟩
  | .hbm, ⟨85, _⟩ => ⟨S32768x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1408x1024, .bf16⟩
  | .local _ .vmem, ⟨7, _⟩ => ⟨S1024x2176, .bf16⟩
  | .local _ .vmem, ⟨8, _⟩ => ⟨S64x1, .f32⟩
  | .local _ .vmem, ⟨9, _⟩ => ⟨S64x1, .f32⟩
  | .local _ .vmem, ⟨10, _⟩ => ⟨S64x256, .f32⟩
  | .local _ .vmem, ⟨11, _⟩ => ⟨S64x256, .f32⟩
  | .local _ .vmem, ⟨12, _⟩ => ⟨S256x1024, .f32⟩
  | .local _ .vmem, ⟨13, _⟩ => ⟨S256x1024, .f32⟩
  | .local _ .vmem, ⟨14, _⟩ => ⟨S1x512x256, .bf16⟩
  | .local _ .vmem, ⟨15, _⟩ => ⟨S1x512x256, .bf16⟩
  | .local _ .vmem, ⟨16, _⟩ => ⟨S1x256x128, .bf16⟩
  | .local _ .vmem, ⟨17, _⟩ => ⟨S1x256x128, .bf16⟩
  | .local _ .vmem, ⟨18, _⟩ => ⟨S1x2x128x128, .bf16⟩
  | .local _ .vmem, ⟨19, _⟩ => ⟨S1x2x128x128, .bf16⟩
  | .local _ .vmem, ⟨20, _⟩ => ⟨S1x512x256, .bf16⟩
  | .local _ .vmem, ⟨21, _⟩ => ⟨S1x512x256, .bf16⟩
  | .local _ .vmem, ⟨22, _⟩ => ⟨S1x256x128, .bf16⟩
  | .local _ .vmem, ⟨23, _⟩ => ⟨S1x256x128, .bf16⟩
  | .local _ .vmem, ⟨24, _⟩ => ⟨S1x2x128x128, .bf16⟩
  | .local _ .vmem, ⟨25, _⟩ => ⟨S1x2x128x128, .bf16⟩
  | .local _ .vmem, ⟨26, _⟩ => ⟨S256x2048, .bf16⟩
  | .local _ .vmem, ⟨27, _⟩ => ⟨S256x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_1 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66_0 : Ref sig .tc := ⟨.hbm, 78, rfl⟩
abbrev main_v66_1 : Ref sig .tc := ⟨.hbm, 79, rfl⟩
abbrev main_v66_2 : Ref sig .tc := ⟨.hbm, 80, rfl⟩
abbrev main_v66_3 : Ref sig .tc := ⟨.hbm, 81, rfl⟩
abbrev main_v66_4 : Ref sig .tc := ⟨.hbm, 82, rfl⟩
abbrev main_v66_5 : Ref sig .tc := ⟨.hbm, 83, rfl⟩
abbrev main_v66_6 : Ref sig .tc := ⟨.hbm, 84, rfl⟩
abbrev main_v66_7 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_13 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_16 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2176 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== FrontRefIdeal.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3584 : Shape := ⟨3, ![1, 1024, 3584]⟩
abbrev S1x64 : Shape := ⟨2, ![1, 64]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S1024x3584 : Shape := ⟨2, ![1024, 3584]⟩
abbrev S4x8192x3584 : Shape := ⟨3, ![4, 8192, 3584]⟩
abbrev S4x8192x512 : Shape := ⟨3, ![4, 8192, 512]⟩
abbrev S4x8192x128 : Shape := ⟨3, ![4, 8192, 128]⟩
abbrev S4x8192x2048 : Shape := ⟨3, ![4, 8192, 2048]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S128 : Shape := ⟨1, ![128]⟩
abbrev S128x64 : Shape := ⟨2, ![128, 64]⟩
abbrev S8192 : Shape := ⟨1, ![8192]⟩
abbrev S8192x1 : Shape := ⟨2, ![8192, 1]⟩
abbrev S8192x2 : Shape := ⟨2, ![8192, 2]⟩
abbrev S16 : Shape := ⟨1, ![16]⟩
abbrev S8192x2x1 : Shape := ⟨3, ![8192, 2, 1]⟩
abbrev S1x1x16 : Shape := ⟨3, ![1, 1, 16]⟩
abbrev S8192x2x16 : Shape := ⟨3, ![8192, 2, 16]⟩
abbrev S1x8192x1x2x16 : Shape := ⟨5, ![1, 8192, 1, 2, 16]⟩
abbrev S4x8192x8x2x2x16 : Shape := ⟨6, ![4, 8192, 8, 2, 2, 16]⟩
abbrev S4x8192x8x2x1x16 : Shape := ⟨6, ![4, 8192, 8, 2, 1, 16]⟩
abbrev S4x8192x8x2x16 : Shape := ⟨5, ![4, 8192, 8, 2, 16]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x2x2x16 : Shape := ⟨6, ![4, 8192, 2, 2, 2, 16]⟩
abbrev S4x8192x2x2x1x16 : Shape := ⟨6, ![4, 8192, 2, 2, 1, 16]⟩
abbrev S4x8192x2x2x16 : Shape := ⟨5, ![4, 8192, 2, 2, 16]⟩
abbrev S4x512x8192 : Shape := ⟨3, ![4, 512, 8192]⟩
abbrev S4x64x128x128 : Shape := ⟨4, ![4, 64, 128, 128]⟩
abbrev S32768x1024 : Shape := ⟨2, ![32768, 1024]⟩
abbrev S32768x2048 : Shape := ⟨2, ![32768, 2048]⟩

abbrev nBuf : Space → Nat
  | .hbm => 232
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x5632, .f32⟩
  | 3 => ⟨S1x2816x1024, .f32⟩
  | 4 => ⟨S1x1024, .f32⟩
  | 5 => ⟨S1x1024x3584, .f32⟩
  | 6 => ⟨S1x64, .f32⟩
  | 7 => ⟨S1x64, .f32⟩
  | 8 => ⟨S1024, .f32⟩
  | 9 => ⟨S4x8192x1024, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S_, .f32⟩
  | 17 => ⟨S4x8192x1, .f32⟩
  | 18 => ⟨S4x8192x1, .f32⟩
  | 19 => ⟨S4x8192x1, .f32⟩
  | 20 => ⟨S4x8192x1024, .f32⟩
  | 21 => ⟨S4x8192x1024, .f32⟩
  | 22 => ⟨S1x1x1024, .f32⟩
  | 23 => ⟨S4x8192x1024, .f32⟩
  | 24 => ⟨S4x8192x1024, .f32⟩
  | 25 => ⟨S1024x5632, .f32⟩
  | 26 => ⟨S2816x1024, .f32⟩
  | 27 => ⟨S4x8192x5632, .f32⟩
  | 28 => ⟨S4x8192x2816, .f32⟩
  | 29 => ⟨S4x8192x2816, .f32⟩
  | 30 => ⟨S4x8192x2816, .f32⟩
  | 31 => ⟨S4x8192x2816, .f32⟩
  | 32 => ⟨S_, .f32⟩
  | 33 => ⟨S4x8192x2816, .f32⟩
  | 34 => ⟨S4x8192x2816, .f32⟩
  | 35 => ⟨S_, .f32⟩
  | 36 => ⟨S4x8192x2816, .f32⟩
  | 37 => ⟨S4x8192x2816, .f32⟩
  | 38 => ⟨S4x8192x2816, .f32⟩
  | 39 => ⟨S4x8192x2816, .f32⟩
  | 40 => ⟨S4x8192x1024, .f32⟩
  | 41 => ⟨S_, .f32⟩
  | 42 => ⟨S4x8192x1024, .f32⟩
  | 43 => ⟨S4x8192x1024, .f32⟩
  | 44 => ⟨S4x8192x1024, .f32⟩
  | 45 => ⟨S1024, .f32⟩
  | 46 => ⟨S4x8192x1024, .f32⟩
  | 47 => ⟨S_, .f32⟩
  | 48 => ⟨S4x8192, .f32⟩
  | 49 => ⟨S4x8192x1, .f32⟩
  | 50 => ⟨S_, .f32⟩
  | 51 => ⟨S4x8192x1, .f32⟩
  | 52 => ⟨S4x8192x1, .f32⟩
  | 53 => ⟨S_, .f32⟩
  | 54 => ⟨S4x8192x1, .f32⟩
  | 55 => ⟨S4x8192x1, .f32⟩
  | 56 => ⟨S4x8192x1, .f32⟩
  | 57 => ⟨S4x8192x1024, .f32⟩
  | 58 => ⟨S4x8192x1024, .f32⟩
  | 59 => ⟨S1x1x1024, .f32⟩
  | 60 => ⟨S4x8192x1024, .f32⟩
  | 61 => ⟨S4x8192x1024, .f32⟩
  | 62 => ⟨S1024x3584, .f32⟩
  | 63 => ⟨S4x8192x3584, .f32⟩
  | 64 => ⟨S4x8192x512, .f32⟩
  | 65 => ⟨S4x8192x128, .f32⟩
  | 66 => ⟨S4x8192x128, .f32⟩
  | 67 => ⟨S4x8192x512, .f32⟩
  | 68 => ⟨S4x8192x128, .f32⟩
  | 69 => ⟨S4x8192x128, .f32⟩
  | 70 => ⟨S4x8192x2048, .f32⟩
  | 71 => ⟨S4x8192x8x64, .f32⟩
  | 72 => ⟨S64, .f32⟩
  | 73 => ⟨S4x8192x8x64, .f32⟩
  | 74 => ⟨S_, .f32⟩
  | 75 => ⟨S4x8192x8, .f32⟩
  | 76 => ⟨S4x8192x8x1, .f32⟩
  | 77 => ⟨S_, .f32⟩
  | 78 => ⟨S4x8192x8x1, .f32⟩
  | 79 => ⟨S4x8192x8x1, .f32⟩
  | 80 => ⟨S_, .f32⟩
  | 81 => ⟨S4x8192x8x1, .f32⟩
  | 82 => ⟨S4x8192x8x1, .f32⟩
  | 83 => ⟨S4x8192x8x1, .f32⟩
  | 84 => ⟨S4x8192x8x64, .f32⟩
  | 85 => ⟨S4x8192x8x64, .f32⟩
  | 86 => ⟨S1x1x1x64, .f32⟩
  | 87 => ⟨S4x8192x8x64, .f32⟩
  | 88 => ⟨S4x8192x8x64, .f32⟩
  | 89 => ⟨S128, .f32⟩
  | 90 => ⟨S64, .f32⟩
  | 91 => ⟨S128x64, .f32⟩
  | 92 => ⟨S128x64, .f32⟩
  | 93 => ⟨S8192, .f32⟩
  | 94 => ⟨S8192, .f32⟩
  | 95 => ⟨S8192x1, .f32⟩
  | 96 => ⟨S8192x1, .f32⟩
  | 97 => ⟨S8192x2, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S8192x2x1, .f32⟩
  | 113 => ⟨S1x1x16, .f32⟩
  | 114 => ⟨S8192x2x16, .f32⟩
  | 115 => ⟨S8192x2x16, .f32⟩
  | 116 => ⟨S8192x2x16, .f32⟩
  | 117 => ⟨S8192x2x16, .f32⟩
  | 118 => ⟨S1x8192x1x2x16, .f32⟩
  | 119 => ⟨S8192x2x16, .f32⟩
  | 120 => ⟨S1x8192x1x2x16, .f32⟩
  | 121 => ⟨S4x8192x8x2x2x16, .f32⟩
  | 122 => ⟨S4x8192x8x2x1x16, .f32⟩
  | 123 => ⟨S4x8192x8x2x16, .f32⟩
  | 124 => ⟨S4x8192x8x2x1x16, .f32⟩
  | 125 => ⟨S4x8192x8x2x16, .f32⟩
  | 126 => ⟨S4x8192x8x2x16, .f32⟩
  | 127 => ⟨S4x8192x8x2x16, .f32⟩
  | _ => ⟨S4x8192x1024, .f32⟩

abbrev hbmTy0_1 (i : Nat) : BufTy := match i % 128 with
  | 0 => ⟨S4x8192x8x2x16, .f32⟩
  | 1 => ⟨S4x8192x8x2x16, .f32⟩
  | 2 => ⟨S4x8192x8x2x16, .f32⟩
  | 3 => ⟨S4x8192x8x2x16, .f32⟩
  | 4 => ⟨S4x8192x8x2x16, .f32⟩
  | 5 => ⟨S4x8192x8x2x16, .f32⟩
  | 6 => ⟨S4x8192x8x2x16, .f32⟩
  | 7 => ⟨S4x8192x8x2x16, .f32⟩
  | 8 => ⟨S4x8192x8x2x1x16, .f32⟩
  | 9 => ⟨S4x8192x8x2x1x16, .f32⟩
  | 10 => ⟨S4x8192x8x2x2x16, .f32⟩
  | 11 => ⟨S4x8192x8x64, .f32⟩
  | 12 => ⟨S4x8192x2x64, .f32⟩
  | 13 => ⟨S64, .f32⟩
  | 14 => ⟨S4x8192x2x64, .f32⟩
  | 15 => ⟨S_, .f32⟩
  | 16 => ⟨S4x8192x2, .f32⟩
  | 17 => ⟨S4x8192x2x1, .f32⟩
  | 18 => ⟨S_, .f32⟩
  | 19 => ⟨S4x8192x2x1, .f32⟩
  | 20 => ⟨S4x8192x2x1, .f32⟩
  | 21 => ⟨S_, .f32⟩
  | 22 => ⟨S4x8192x2x1, .f32⟩
  | 23 => ⟨S4x8192x2x1, .f32⟩
  | 24 => ⟨S4x8192x2x1, .f32⟩
  | 25 => ⟨S4x8192x2x64, .f32⟩
  | 26 => ⟨S4x8192x2x64, .f32⟩
  | 27 => ⟨S1x1x1x64, .f32⟩
  | 28 => ⟨S4x8192x2x64, .f32⟩
  | 29 => ⟨S4x8192x2x64, .f32⟩
  | 30 => ⟨S128, .f32⟩
  | 31 => ⟨S64, .f32⟩
  | 32 => ⟨S128x64, .f32⟩
  | 33 => ⟨S128x64, .f32⟩
  | 34 => ⟨S8192, .f32⟩
  | 35 => ⟨S8192, .f32⟩
  | 36 => ⟨S8192x1, .f32⟩
  | 37 => ⟨S8192x1, .f32⟩
  | 38 => ⟨S8192x2, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S8192x2x1, .f32⟩
  | 54 => ⟨S1x1x16, .f32⟩
  | 55 => ⟨S8192x2x16, .f32⟩
  | 56 => ⟨S8192x2x16, .f32⟩
  | 57 => ⟨S8192x2x16, .f32⟩
  | 58 => ⟨S8192x2x16, .f32⟩
  | 59 => ⟨S1x8192x1x2x16, .f32⟩
  | 60 => ⟨S8192x2x16, .f32⟩
  | 61 => ⟨S1x8192x1x2x16, .f32⟩
  | 62 => ⟨S4x8192x2x2x2x16, .f32⟩
  | 63 => ⟨S4x8192x2x2x1x16, .f32⟩
  | 64 => ⟨S4x8192x2x2x16, .f32⟩
  | 65 => ⟨S4x8192x2x2x1x16, .f32⟩
  | 66 => ⟨S4x8192x2x2x16, .f32⟩
  | 67 => ⟨S4x8192x2x2x16, .f32⟩
  | 68 => ⟨S4x8192x2x2x16, .f32⟩
  | 69 => ⟨S4x8192x2x2x16, .f32⟩
  | 70 => ⟨S4x8192x2x2x16, .f32⟩
  | 71 => ⟨S4x8192x2x2x16, .f32⟩
  | 72 => ⟨S4x8192x2x2x16, .f32⟩
  | 73 => ⟨S4x8192x2x2x16, .f32⟩
  | 74 => ⟨S4x8192x2x2x16, .f32⟩
  | 75 => ⟨S4x8192x2x2x16, .f32⟩
  | 76 => ⟨S4x8192x2x2x16, .f32⟩
  | 77 => ⟨S4x8192x2x2x1x16, .f32⟩
  | 78 => ⟨S4x8192x2x2x1x16, .f32⟩
  | 79 => ⟨S4x8192x2x2x2x16, .f32⟩
  | 80 => ⟨S4x8192x2x64, .f32⟩
  | 81 => ⟨S4x8192x512, .f32⟩
  | 82 => ⟨S_, .f32⟩
  | 83 => ⟨S4x8192x512, .f32⟩
  | 84 => ⟨S4x8192x512, .f32⟩
  | 85 => ⟨S4x512x8192, .f32⟩
  | 86 => ⟨S4x512x8192, .bf16⟩
  | 87 => ⟨S_, .f32⟩
  | 88 => ⟨S4x8192x512, .f32⟩
  | 89 => ⟨S4x8192x512, .f32⟩
  | 90 => ⟨S4x512x8192, .f32⟩
  | 91 => ⟨S4x512x8192, .bf16⟩
  | 92 => ⟨S4x64x128x128, .f32⟩
  | 93 => ⟨S4x64x128x128, .f32⟩
  | 94 => ⟨S4x64x128x128, .bf16⟩
  | 95 => ⟨S4x64x128x128, .f32⟩
  | 96 => ⟨S4x64x128x128, .f32⟩
  | 97 => ⟨S4x64x128x128, .bf16⟩
  | 98 => ⟨S32768x1024, .f32⟩
  | 99 => ⟨S4x8192x128, .f32⟩
  | 100 => ⟨S4x8192x128, .bf16⟩
  | 101 => ⟨S4x8192x128, .bf16⟩
  | 102 => ⟨S32768x2048, .f32⟩
  | 103 => ⟨S32768x2048, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_11 : Ref sig .tc := ⟨.hbm, 106, rfl⟩
abbrev main_v78 : Ref sig .tc := ⟨.hbm, 107, rfl⟩
abbrev main_v79 : Ref sig .tc := ⟨.hbm, 108, rfl⟩
abbrev main_cst_12 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_13 : Ref sig .tc := ⟨.hbm, 143, rfl⟩
abbrev main_v113 : Ref sig .tc := ⟨.hbm, 144, rfl⟩
abbrev main_v114 : Ref sig .tc := ⟨.hbm, 145, rfl⟩
abbrev main_cst_14 : Ref sig .tc := ⟨.hbm, 146, rfl⟩
abbrev main_v115 : Ref sig .tc := ⟨.hbm, 147, rfl⟩
abbrev main_v116 : Ref sig .tc := ⟨.hbm, 148, rfl⟩
abbrev main_cst_15 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_16 : Ref sig .tc := ⟨.hbm, 168, rfl⟩
abbrev main_v135 : Ref sig .tc := ⟨.hbm, 169, rfl⟩
abbrev main_v136 : Ref sig .tc := ⟨.hbm, 170, rfl⟩
abbrev main_cst_17 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_18 : Ref sig .tc := ⟨.hbm, 175, rfl⟩
abbrev main_v140 : Ref sig .tc := ⟨.hbm, 176, rfl⟩
abbrev main_v141 : Ref sig .tc := ⟨.hbm, 177, rfl⟩
abbrev main_cst_19 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_cst_20 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_cst_21 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩

abbrev nD : Nat := 1
abbrev τ : Topo := Topo.v7x

variable {F : FTy → Type} [FloatOps F]
-- ==== AttnA.lean ====
abbrev S4x512x8192 : Shape := ⟨3, ![4, 512, 8192]⟩
abbrev S4x8192x128 : Shape := ⟨3, ![4, 8192, 128]⟩
abbrev S4x64x128x128 : Shape := ⟨4, ![4, 64, 128, 128]⟩
abbrev S4x8192x512 : Shape := ⟨3, ![4, 8192, 512]⟩
abbrev S1x512x128 : Shape := ⟨3, ![1, 512, 128]⟩
abbrev S1x8192x128 : Shape := ⟨3, ![1, 8192, 128]⟩
abbrev S1x64x128x128 : Shape := ⟨4, ![1, 64, 128, 128]⟩
abbrev S1x128x512 : Shape := ⟨3, ![1, 128, 512]⟩
abbrev S128x1024 : Shape := ⟨2, ![128, 1024]⟩
abbrev S1x1024 : Shape := ⟨2, ![1, 1024]⟩
abbrev S2x64x512 : Shape := ⟨3, ![2, 64, 512]⟩
abbrev S512x128 : Shape := ⟨2, ![512, 128]⟩
abbrev S64x128 : Shape := ⟨2, ![64, 128]⟩
abbrev S128x128 : Shape := ⟨2, ![128, 128]⟩
abbrev S1x256x128 : Shape := ⟨3, ![1, 256, 128]⟩
abbrev S256x128 : Shape := ⟨2, ![256, 128]⟩
abbrev S256x1024 : Shape := ⟨2, ![256, 1024]⟩
abbrev S1024 : Shape := ⟨1, ![1024]⟩
abbrev S1x1x128x128 : Shape := ⟨4, ![1, 1, 128, 128]⟩
abbrev S128x256 : Shape := ⟨2, ![128, 256]⟩
abbrev S64x256 : Shape := ⟨2, ![64, 256]⟩
abbrev S256x512 : Shape := ⟨2, ![256, 512]⟩
abbrev S64x512 : Shape := ⟨2, ![64, 512]⟩
abbrev S1x64x512 : Shape := ⟨3, ![1, 64, 512]⟩
abbrev S1x512 : Shape := ⟨2, ![1, 512]⟩
abbrev S1x128 : Shape := ⟨2, ![1, 128]⟩
abbrev S128x512 : Shape := ⟨2, ![128, 512]⟩

abbrev nBuf : Space → Nat
  | .hbm => 4
  | .vmem => 12
  | .smem => 0
  | _ => 0

abbrev bufTy : (tb : Table) → Fin (tcTables nBuf tb) → BufTy
  | .hbm, ⟨0, _⟩ => ⟨S4x512x8192, .bf16⟩
  | .hbm, ⟨1, _⟩ => ⟨S4x8192x128, .bf16⟩
  | .hbm, ⟨2, _⟩ => ⟨S4x64x128x128, .bf16⟩
  | .hbm, ⟨3, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x64x128x128, .bf16⟩
  | .local _ .vmem, ⟨5, _⟩ => ⟨S1x64x128x128, .bf16⟩
  | .local _ .vmem, ⟨6, _⟩ => ⟨S1x128x512, .bf16⟩
  | .local _ .vmem, ⟨7, _⟩ => ⟨S1x128x512, .bf16⟩
  | .local _ .vmem, ⟨8, _⟩ => ⟨S128x1024, .bf16⟩
  | .local _ .vmem, ⟨9, _⟩ => ⟨S1x1024, .f32⟩
  | .local _ .vmem, ⟨10, _⟩ => ⟨S1x1024, .f32⟩
  | .local _ .vmem, ⟨11, _⟩ => ⟨S2x64x512, .f32⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

@[reducible] def k0_t1_loop : Scf.Loop 32 :=
  let c0_i32 : BitVec 32 := 0#32
  let c32_i32 : BitVec 32 := 32#32
  let v55 : BitVec 32 := Scalar.addi c0_i32 c32_i32
  let c1_i32 : BitVec 32 := 1#32
  ⟨c0_i32, v55, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v113 : BitVec 32 := Scalar.muli arg10 c256_i32
  v113
def k0_off1 (k0_t1 : Fin k0_t1_loop.trips) : Fin 3 → Nat :=
  let c0_51 : Index := 0#32
  let c0_i32 : BitVec 32 := 0#32
  let c1_i32 : BitVec 32 := 1#32
  let arg10 : BitVec 32 := Scf.iv c0_i32 c1_i32 k0_t1
  let c256_i32 : BitVec 32 := 256#32
  let v113 : BitVec 32 := Scalar.muli arg10 c256_i32
  let v114 : BitVec 32 := v113
  let v115 : Index := Scalar.indexCast v114
  let c0_52 : Index := 0#32
  ![0, v115.toNat, 0]
def k0_off2 (k0_t1 : Fin k0_t1_loop.trips) (c0_i32_66 : BitVec 32) : Fin 4 → Nat :=
  let c0_67 : Index := 0#32
  let c0_i32 : BitVec 32 := 0#32
  let c1_i32 : BitVec 32 := 1#32
  let arg10 : BitVec 32 := Scf.iv c0_i32 c1_i32 k0_t1
  let c2_i32 : BitVec 32 := 2#32
  let v141 : BitVec 32 := Scalar.muli arg10 c2_i32
  let v142 : BitVec 32 := Scalar.addi v141 c0_i32_66
  let v143 : Index := Scalar.indexCast v142
  let c0_68 : Index := 0#32
  let c0_69 : Index := 0#32
  ![0, v143.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnARefIdeal.lean ====
abbrev S4x512x8192 : Shape := ⟨3, ![4, 512, 8192]⟩
abbrev S4x8192x128 : Shape := ⟨3, ![4, 8192, 128]⟩
abbrev S4x64x128x128 : Shape := ⟨4, ![4, 64, 128, 128]⟩
abbrev S4x2x4x64x8192 : Shape := ⟨5, ![4, 2, 4, 64, 8192]⟩
abbrev S4x8192x2x64 : Shape := ⟨4, ![4, 8192, 2, 64]⟩
abbrev S4x64x2x64x128 : Shape := ⟨5, ![4, 64, 2, 64, 128]⟩
abbrev S4x64x128x2x64 : Shape := ⟨5, ![4, 64, 128, 2, 64]⟩
abbrev S4x2x4x8192x8192 : Shape := ⟨5, ![4, 2, 4, 8192, 8192]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x8192x2x4x64 : Shape := ⟨5, ![4, 8192, 2, 4, 64]⟩
abbrev S4x8192x512 : Shape := ⟨3, ![4, 8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x512x8192, .bf16⟩
  | .hbm, ⟨1, _⟩ => ⟨S4x8192x128, .bf16⟩
  | .hbm, ⟨2, _⟩ => ⟨S4x64x128x128, .bf16⟩
  | .hbm, ⟨3, _⟩ => ⟨S4x512x8192, .f32⟩
  | .hbm, ⟨4, _⟩ => ⟨S4x2x4x64x8192, .f32⟩
  | .hbm, ⟨5, _⟩ => ⟨S4x8192x128, .f32⟩
  | .hbm, ⟨6, _⟩ => ⟨S4x8192x2x64, .f32⟩
  | .hbm, ⟨7, _⟩ => ⟨S4x64x128x128, .f32⟩
  | .hbm, ⟨8, _⟩ => ⟨S4x64x2x64x128, .f32⟩
  | .hbm, ⟨9, _⟩ => ⟨S4x64x128x2x64, .f32⟩
  | .hbm, ⟨10, _⟩ => ⟨S4x8192x2x64, .f32⟩
  | .hbm, ⟨11, _⟩ => ⟨S4x2x4x8192x8192, .f32⟩
  | .hbm, ⟨12, _⟩ => ⟨S_, .f32⟩
  | .hbm, ⟨13, _⟩ => ⟨S4x2x4x8192, .f32⟩
  | .hbm, ⟨14, _⟩ => ⟨S_, .f32⟩
  | .hbm, ⟨15, _⟩ => ⟨S4x2x4x8192, .f32⟩
  | .hbm, ⟨16, _⟩ => ⟨S4x2x4x8192, .f32⟩
  | .hbm, ⟨17, _⟩ => ⟨S4x2x4x8192x1, .f32⟩
  | .hbm, ⟨18, _⟩ => ⟨S4x2x4x8192x8192, .f32⟩
  | .hbm, ⟨19, _⟩ => ⟨S4x2x4x8192x8192, .f32⟩
  | .hbm, ⟨20, _⟩ => ⟨S4x2x4x8192x8192, .f32⟩
  | .hbm, ⟨21, _⟩ => ⟨S_, .f32⟩
  | .hbm, ⟨22, _⟩ => ⟨S4x2x4x8192, .f32⟩
  | .hbm, ⟨23, _⟩ => ⟨S4x2x4x8192x1, .f32⟩
  | .hbm, ⟨24, _⟩ => ⟨S4x2x4x8192x8192, .f32⟩
  | .hbm, ⟨25, _⟩ => ⟨S4x2x4x8192x8192, .f32⟩
  | .hbm, ⟨26, _⟩ => ⟨S4x2x64x4x8192, .f32⟩
  | .hbm, ⟨27, _⟩ => ⟨S4x8192x2x4x64, .f32⟩
  | .hbm, ⟨28, _⟩ => ⟨S4x8192x512, .f32⟩
  | .hbm, ⟨29, _⟩ => ⟨S4x8192x512, .bf16⟩
  | _, _ => ⟨S4x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Back.lean ====
abbrev S32768x1024 : Shape := ⟨2, ![32768, 1024]⟩
abbrev S4x8192x512 : Shape := ⟨3, ![4, 8192, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S32768x512 : Shape := ⟨2, ![32768, 512]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 27
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S4x8192x512, .bf16⟩
  | .hbm, ⟨2, _⟩ => ⟨S4x8192x512, .bf16⟩
  | .hbm, ⟨3, _⟩ => ⟨S32768x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1024, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024x5632, .f32⟩
  | .hbm, ⟨20, _⟩ => ⟨S1024x5632, .bf16⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S32768x512, .bf16⟩
  | .hbm, ⟨25, _⟩ => ⟨S32768x512, .bf16⟩
  | .hbm, ⟨26, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BackRefIdeal.lean ====
abbrev S32768x1024 : Shape := ⟨2, ![32768, 1024]⟩
abbrev S4x8192x512 : Shape := ⟨3, ![4, 8192, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4x8192x1024 : Shape := ⟨3, ![4, 8192, 1024]⟩
abbrev S4x8192x2048 : Shape := ⟨3, ![4, 8192, 2048]⟩
abbrev S512x1024 : Shape := ⟨2, ![512, 1024]⟩
abbrev S_ : Shape := ⟨0, ![]⟩
abbrev S1024x1024 : Shape := ⟨2, ![1024, 1024]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 98
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x512, .bf16⟩
  | .hbm, ⟨2, _⟩ => ⟨S4x8192x512, .bf16⟩
  | .hbm, ⟨3, _⟩ => ⟨S32768x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1024, .f32⟩
  | .hbm, ⟨11, _⟩ => ⟨S4x8192x1024, .f32⟩
  | .hbm, ⟨12, _⟩ => ⟨S32768x2048, .f32⟩
  | .hbm, ⟨13, _⟩ => ⟨S4x8192x2048, .f32⟩
  | .hbm, ⟨14, _⟩ => ⟨S4x8192x1024, .f32⟩
  | .hbm, ⟨15, _⟩ => ⟨S4x8192x1024, .f32⟩
  | .hbm, ⟨16, _⟩ => ⟨S4x8192x512, .f32⟩
  | .hbm, ⟨17, _⟩ => ⟨S512x1024, .f32⟩
  | .hbm, ⟨18, _⟩ => ⟨S4x8192x1024, .f32⟩
  | .hbm, ⟨19, _⟩ => ⟨S4x8192x512, .f32⟩
  | .hbm, ⟨20, _⟩ => ⟨S512x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S1024x1024, .f32⟩
  | .hbm, ⟨42, _⟩ => ⟨S4x8192x1024, .f32⟩
  | .hbm, ⟨43, _⟩ => ⟨S4x8192x1024, .f32⟩
  | .hbm, ⟨44, _⟩ => ⟨S1024, .f32⟩
  | .hbm, ⟨45, _⟩ => ⟨S4x8192x1024, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S1x1x1024, .f32⟩
  | .hbm, ⟨59, _⟩ => ⟨S4x8192x1024, .f32⟩
  | .hbm, ⟨60, _⟩ => ⟨S4x8192x1024, .f32⟩
  | .hbm, ⟨61, _⟩ => ⟨S1024x5632, .f32⟩
  | .hbm, ⟨62, _⟩ => ⟨S2816x1024, .f32⟩
  | .hbm, ⟨63, _⟩ => ⟨S4x8192x5632, .f32⟩
  | .hbm, ⟨64, _⟩ => ⟨S4x8192x2816, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S_, .f32⟩
  | .hbm, ⟨69, _⟩ => ⟨S4x8192x2816, .f32⟩
  | .hbm, ⟨70, _⟩ => ⟨S4x8192x2816, .f32⟩
  | .hbm, ⟨71, _⟩ => ⟨S_, .f32⟩
  | .hbm, ⟨72, _⟩ => ⟨S4x8192x2816, .f32⟩
  | .hbm, ⟨73, _⟩ => ⟨S4x8192x2816, .f32⟩
  | .hbm, ⟨74, _⟩ => ⟨S4x8192x2816, .f32⟩
  | .hbm, ⟨75, _⟩ => ⟨S4x8192x2816, .f32⟩
  | .hbm, ⟨76, _⟩ => ⟨S4x8192x1024, .f32⟩
  | .hbm, ⟨77, _⟩ => ⟨S_, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S_, .f32⟩
  | .hbm, ⟨83, _⟩ => ⟨S4x8192, .f32⟩
  | .hbm, ⟨84, _⟩ => ⟨S4x8192x1, .f32⟩
  | .hbm, ⟨85, _⟩ => ⟨S_, .f32⟩
  | .hbm, ⟨86, _⟩ => ⟨S4x8192x1, .f32⟩
  | .hbm, ⟨87, _⟩ => ⟨S4x8192x1, .f32⟩
  | .hbm, ⟨88, _⟩ => ⟨S_, .f32⟩
  | .hbm, ⟨89, _⟩ => ⟨S4x8192x1, .f32⟩
  | .hbm, ⟨90, _⟩ => ⟨S4x8192x1, .f32⟩
  | .hbm, ⟨91, _⟩ => ⟨S4x8192x1, .f32⟩
  | .hbm, ⟨92, _⟩ => ⟨S4x8192x1024, .f32⟩
  | .hbm, ⟨93, _⟩ => ⟨S4x8192x1024, .f32⟩
  | .hbm, ⟨94, _⟩ => ⟨S1x1x1024, .f32⟩
  | .hbm, ⟨95, _⟩ => ⟨S4x8192x1024, .f32⟩
  | .hbm, ⟨96, _⟩ => ⟨S4x8192x1024, .f32⟩
  | .hbm, ⟨97, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== AttnB.lean ====
abbrev S4x512x8192 : Shape := ⟨3, ![4, 512, 8192]⟩
abbrev S4x8192x128 : Shape := ⟨3, ![4, 8192, 128]⟩
abbrev S4x64x128x128 : Shape := ⟨4, ![4, 64, 128, 128]⟩
abbrev S32x8 : Shape := ⟨2, ![32, 8]⟩
abbrev S1x8 : Shape := ⟨2, ![1, 8]⟩
abbrev S384 : Shape := ⟨1, ![384]⟩
abbrev S384x1 : Shape := ⟨2, ![384, 1]⟩
abbrev S_ : Shape := ⟨0, ![]⟩
abbrev S128 : Shape := ⟨1, ![128]⟩
abbrev S1x128 : Shape := ⟨2, ![1, 128]⟩
abbrev S384x128 : Shape := ⟨2, ![384, 128]⟩
abbrev S3x128x128 : Shape := ⟨3, ![3, 128, 128]⟩
abbrev S8 : Shape := ⟨1, ![8]⟩
abbrev S8x128 : Shape := ⟨2, ![8, 128]⟩
abbrev S1024 : Shape := ⟨1, ![1024]⟩
abbrev S1x1024 : Shape := ⟨2, ![1, 1024]⟩
abbrev S4x8192x512 : Shape := ⟨3, ![4, 8192, 512]⟩
abbrev S1x512x128 : Shape := ⟨3, ![1, 512, 128]⟩
abbrev S1x8192x128 : Shape := ⟨3, ![1, 8192, 128]⟩
abbrev S1x64x128x128 : Shape := ⟨4, ![1, 64, 128, 128]⟩
abbrev S1x128x512 : Shape := ⟨3, ![1, 128, 512]⟩
abbrev S128x1024 : Shape := ⟨2, ![128, 1024]⟩
abbrev S3x128x1024 : Shape := ⟨3, ![3, 128, 1024]⟩
abbrev S1x128x128 : Shape := ⟨3, ![1, 128, 128]⟩
abbrev S128x128 : Shape := ⟨2, ![128, 128]⟩
abbrev S1x1 : Shape := ⟨2, ![1, 1]⟩
abbrev S512x128 : Shape := ⟨2, ![512, 128]⟩
abbrev S64x128 : Shape := ⟨2, ![64, 128]⟩
abbrev S1x128x1024 : Shape := ⟨3, ![1, 128, 1024]⟩
abbrev S384x1024 : Shape := ⟨2, ![384, 1024]⟩
abbrev S64x512 : Shape := ⟨2, ![64, 512]⟩
abbrev S1x1x128x128 : Shape := ⟨4, ![1, 1, 128, 128]⟩
abbrev S128x512 : Shape := ⟨2, ![128, 512]⟩
abbrev S1x512 : Shape := ⟨2, ![1, 512]⟩

abbrev nBuf : Space → Nat
  | .hbm => 57
  | .vmem => 12
  | .smem => 1
  | _ => 0

abbrev bufTy : (tb : Table) → Fin (tcTables nBuf tb) → BufTy
  | .hbm, ⟨0, _⟩ => ⟨S4x512x8192, .bf16⟩
  | .hbm, ⟨1, _⟩ => ⟨S4x8192x128, .bf16⟩
  | .hbm, ⟨2, _⟩ => ⟨S4x64x128x128, .bf16⟩
  | .hbm, ⟨3, _⟩ => ⟨S32x8, .f32⟩
  | .hbm, ⟨4, _⟩ => ⟨S1x8, .f32⟩
  | .hbm, ⟨5, _⟩ => ⟨S384, .i32⟩
  | .hbm, ⟨6, _⟩ => ⟨S384x1, .i32⟩
  | .hbm, ⟨7, _⟩ => ⟨S_, .i32⟩
  | .hbm, ⟨8, _⟩ => ⟨S384x1, .i32⟩
  | .hbm, ⟨9, _⟩ => ⟨S384x1, .i32⟩
  | .hbm, ⟨10, _⟩ => ⟨S128, .i32⟩
  | .hbm, ⟨11, _⟩ => ⟨S1x128, .i32⟩
  | .hbm, ⟨12, _⟩ => ⟨S384x128, .i32⟩
  | .hbm, ⟨13, _⟩ => ⟨S384x128, .i32⟩
  | .hbm, ⟨14, _⟩ => ⟨S384x128, .i32⟩
  | .hbm, ⟨15, _⟩ => ⟨S_, .i32⟩
  | .hbm, ⟨16, _⟩ => ⟨S384x128, .i32⟩
  | .hbm, ⟨17, _⟩ => ⟨S384x128, .i1⟩
  | .hbm, ⟨18, _⟩ => ⟨S_, .i32⟩
  | .hbm, ⟨19, _⟩ => ⟨S_, .i32⟩
  | .hbm, ⟨20, _⟩ => ⟨S384x128, .i32⟩
  | .hbm, ⟨21, _⟩ => ⟨S384x128, .i32⟩
  | .hbm, ⟨22, _⟩ => ⟨S384x128, .i32⟩
  | .hbm, ⟨23, _⟩ => ⟨S384x128, .i32⟩
  | .hbm, ⟨24, _⟩ => ⟨S_, .i32⟩
  | .hbm, ⟨25, _⟩ => ⟨S384x128, .i32⟩
  | .hbm, ⟨26, _⟩ => ⟨S384x128, .i32⟩
  | .hbm, ⟨27, _⟩ => ⟨S384x128, .f32⟩
  | .hbm, ⟨28, _⟩ => ⟨S_, .f32⟩
  | .hbm, ⟨29, _⟩ => ⟨S384x128, .f32⟩
  | .hbm, ⟨30, _⟩ => ⟨S384x128, .f32⟩
  | .hbm, ⟨31, _⟩ => ⟨S384x128, .f32⟩
  | .hbm, ⟨32, _⟩ => ⟨S_, .f32⟩
  | .hbm, ⟨33, _⟩ => ⟨S384x128, .f32⟩
  | .hbm, ⟨34, _⟩ => ⟨S384x128, .f32⟩
  | .hbm, ⟨35, _⟩ => ⟨S_, .f32⟩
  | .hbm, ⟨36, _⟩ => ⟨S384x128, .f32⟩
  | .hbm, ⟨37, _⟩ => ⟨S384x128, .f32⟩
  | .hbm, ⟨38, _⟩ => ⟨S384x128, .i32⟩
  | .hbm, ⟨39, _⟩ => ⟨S_, .i32⟩
  | .hbm, ⟨40, _⟩ => ⟨S384x128, .i32⟩
  | .hbm, ⟨41, _⟩ => ⟨S384x128, .i32⟩
  | .hbm, ⟨42, _⟩ => ⟨S_, .i32⟩
  | .hbm, ⟨43, _⟩ => ⟨S384x128, .i32⟩
  | .hbm, ⟨44, _⟩ => ⟨S384x128, .i32⟩
  | .hbm, ⟨45, _⟩ => ⟨S_, .i32⟩
  | .hbm, ⟨46, _⟩ => ⟨S384x128, .i32⟩
  | .hbm, ⟨47, _⟩ => ⟨S384x128, .i1⟩
  | .hbm, ⟨48, _⟩ => ⟨S384x128, .i32⟩
  | .hbm, ⟨49, _⟩ => ⟨S384x128, .i32⟩
  | .hbm, ⟨50, _⟩ => ⟨S384x128, .i32⟩
  | .hbm, ⟨51, _⟩ => ⟨S3x128x128, .i32⟩
  | .hbm, ⟨52, _⟩ => ⟨S8, .f32⟩
  | .hbm, ⟨53, _⟩ => ⟨S8x128, .f32⟩
  | .hbm, ⟨54, _⟩ => ⟨S1024, .f32⟩
  | .hbm, ⟨55, _⟩ => ⟨S1x1024, .f32⟩
  | .hbm, ⟨56, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x64x128x128, .bf16⟩
  | .local _ .vmem, ⟨5, _⟩ => ⟨S1x64x128x128, .bf16⟩
  | .local _ .vmem, ⟨6, _⟩ => ⟨S3x128x128, .i32⟩
  | .local _ .vmem, ⟨7, _⟩ => ⟨S1x1024, .f32⟩
  | .local _ .vmem, ⟨8, _⟩ => ⟨S1x128x512, .bf16⟩
  | .local _ .vmem, ⟨9, _⟩ => ⟨S1x128x512, .bf16⟩
  | .local _ .vmem, ⟨10, _⟩ => ⟨S128x1024, .bf16⟩
  | .local _ .vmem, ⟨11, _⟩ => ⟨S3x128x1024, .f32⟩
  | .local _ .smem, ⟨0, _⟩ => ⟨S32x8, .f32⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let c63_i32 : BitVec 32 := 63#32
  let c0_i32_15 : BitVec 32 := 0#32
  let arg1 : BitVec 32 := BitVec.ofNat 32 (i 1).val
  let c1_i32 : BitVec 32 := 1#32
  let v48 : BitVec 32 := Scalar.subi arg1 c1_i32
  let c0_i32_13 : BitVec 32 := 0#32
  let v49 : BitVec 32 := Scalar.addi v48 c0_i32_13
  let v53 : BitVec 32 := Scalar.maxsi c0_i32_15 v49
  let v54 : BitVec 32 := Scalar.minsi c63_i32 v53
  let c128_i32 : BitVec 32 := 128#32
  let v55 : BitVec 32 := Scalar.muli v54 c128_i32
  v55
def k0_off1 (i : grid0.Coords) (c0_i32_13 : BitVec 32) : Fin 3 → Nat :=
  let c0_16 : Index := 0#32
  let c63_i32 : BitVec 32 := 63#32
  let c0_i32_15 : BitVec 32 := 0#32
  let arg1 : BitVec 32 := BitVec.ofNat 32 (i 1).val
  let c1_i32 : BitVec 32 := 1#32
  let v48 : BitVec 32 := Scalar.subi arg1 c1_i32
  let v49 : BitVec 32 := Scalar.addi v48 c0_i32_13
  let v53 : BitVec 32 := Scalar.maxsi c0_i32_15 v49
  let v54 : BitVec 32 := Scalar.minsi c63_i32 v53
  let c128_i32 : BitVec 32 := 128#32
  let v55 : BitVec 32 := Scalar.muli v54 c128_i32
  let v56 : BitVec 32 := v55
  let v57 : Index := Scalar.indexCast v56
  let c0_17 : Index := 0#32
  ![0, v57.toNat, 0]
def k0_mult2 (i : grid0.Coords) : BitVec 32 :=
  let c63_i32_30 : BitVec 32 := 63#32
  let c0_i32_29 : BitVec 32 := 0#32
  let arg1 : BitVec 32 := BitVec.ofNat 32 (i 1).val
  let c1_i32_25 : BitVec 32 := 1#32
  let v67 : BitVec 32 := Scalar.subi arg1 c1_i32_25
  let c1_i32_26 : BitVec 32 := 1#32
  let v68 : BitVec 32 := Scalar.addi v67 c1_i32_26
  let v72 : BitVec 32 := Scalar.maxsi c0_i32_29 v68
  let v73 : BitVec 32 := Scalar.minsi c63_i32_30 v72
  let c128_i32_31 : BitVec 32 := 128#32
  let v74 : BitVec 32 := Scalar.muli v73 c128_i32_31
  v74
def k0_mult3 (i : grid0.Coords) : BitVec 32 :=
  let c63_i32_44 : BitVec 32 := 63#32
  let c0_i32_43 : BitVec 32 := 0#32
  let arg1 : BitVec 32 := BitVec.ofNat 32 (i 1).val
  let c1_i32_40 : BitVec 32 := 1#32
  let v86 : BitVec 32 := Scalar.subi arg1 c1_i32_40
  let c2_i32 : BitVec 32 := 2#32
  let v87 : BitVec 32 := Scalar.addi v86 c2_i32
  let v91 : BitVec 32 := Scalar.maxsi c0_i32_43 v87
  let v92 : BitVec 32 := Scalar.minsi c63_i32_44 v91
  let c128_i32_45 : BitVec 32 := 128#32
  let v93 : BitVec 32 := Scalar.muli v92 c128_i32_45
  v93
def k0_off2 (i : grid0.Coords) (c0_i32_13 : BitVec 32) : Fin 4 → Nat :=
  let c0_60 : Index := 0#32
  let c63_i32 : BitVec 32 := 63#32
  let c0_i32_15 : BitVec 32 := 0#32
  let arg1 : BitVec 32 := BitVec.ofNat 32 (i 1).val
  let c1_i32 : BitVec 32 := 1#32
  let v48 : BitVec 32 := Scalar.subi arg1 c1_i32
  let v49 : BitVec 32 := Scalar.addi v48 c0_i32_13
  let v53 : BitVec 32 := Scalar.maxsi c0_i32_15 v49
  let v54 : BitVec 32 := Scalar.minsi c63_i32 v53
  let v123 : Index := Scalar.indexCast v54
  let c0_61 : Index := 0#32
  let c0_62 : Index := 0#32
  ![0, v123.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x128x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.AttnATrip.lean ====
module

public import proofs.«01_k».proof.Proof.Gen.AttnAIdeal.Value
public import Idealize.ShloMosaic.Lib.Pipeline.ValueKit
public import Idealize.ShloMosaic.Lib.Pipeline.ReadBack

@[expose] public section

set_option maxRecDepth 16384

noncomputable section

namespace AttnAHand

open Cert.AttnAIdeal Cert.AttnAIdeal.Gen Idealize.ShloMosaic Idealize.ShloMosaic.TcCoe Idealize.SL.Sem

variable {F : FTy → Type} [FloatOps F]

/-- Trip `k`'s 256 key rows of the whole key block. -/
def ktile (x1 : Vec F S1x8192x128 .bf16) (k : Fin k0_t1_loop.trips) : Vec F S1x256x128 .bf16 :=
  View.ld x1 (Rect.unit (s := S1x8192x128) (k0_off1 k) S1x256x128.size (k0_off1_inb k))

/-- Trip `k`'s first 128 value columns. -/
def vtile0 (x2 : Vec F S1x64x128x128 .bf16) (k : Fin k0_t1_loop.trips) : Vec F S1x1x128x128 .bf16 :=
  View.ld x2 (Rect.unit (s := S1x64x128x128) (k0_off2 k 0#32) S1x1x128x128.size (k0_off2_inb k 0))

/-- Trip `k`'s second 128 value columns. -/
def vtile1 (x2 : Vec F S1x64x128x128 .bf16) (k : Fin k0_t1_loop.trips) : Vec F S1x1x128x128 .bf16 :=
  View.ld x2 (Rect.unit (s := S1x64x128x128) (k0_off2 k 1#32) S1x1x128x128.size (k0_off2_inb k 1))

abbrev accRect0 : Rect S2x64x512 := Rect.unit (s := S2x64x512) ![0, 0, 0] S1x64x512.size inb_S2x64x512_S1x64x512_0_0_0
abbrev accRect1 : Rect S2x64x512 := Rect.unit (s := S2x64x512) ![1, 0, 0] S1x64x512.size inb_S2x64x512_S1x64x512_1_0_0

/-- The running maximum after trip `k`. -/
def nextM (x1 : Vec F S1x8192x128 .bf16) (wq : Vec F S128x1024 .bf16) (k : Fin k0_t1_loop.trips)
    (M : Vec F S1x1024 .f32) : Vec F S1x1024 .f32 :=
  k0_pay7 (ktile x1 k) wq M

/-- The running denominator after trip `k`. -/
def nextL (x1 : Vec F S1x8192x128 .bf16) (wq : Vec F S128x1024 .bf16) (k : Fin k0_t1_loop.trips)
    (M L : Vec F S1x1024 .f32) : Vec F S1x1024 .f32 :=
  k0_pay6 (ktile x1 k) wq M L

/-- The running numerator after trip `k`: two slabs, one per key/value head. -/
def nextA (x1 : Vec F S1x8192x128 .bf16) (x2 : Vec F S1x64x128x128 .bf16) (wq : Vec F S128x1024 .bf16)
    (k : Fin k0_t1_loop.trips) (M : Vec F S1x1024 .f32) (A : Vec F S2x64x512 .f32) : Vec F S2x64x512 .f32 :=
  View.canon (Val := Elt F)
    [⟨accRect1, k0_pay26 (k0_pay4 (ktile x1 k) wq M) (k0_pay8 (ktile x1 k) wq M) (k0_pay9 (vtile0 x2 k))
        (vtile1 x2 k) (View.ld A accRect1)⟩,
     ⟨accRect0, k0_pay25 (k0_pay4 (ktile x1 k) wq M) (k0_pay8 (ktile x1 k) wq M) (k0_pay9 (vtile0 x2 k))
        (vtile1 x2 k) (View.ld A accRect0)⟩]

/-- What the loop carries: running maximum, denominator, numerator. -/
structure St (F : FTy → Type) where
  M : Vec F S1x1024 .f32
  L : Vec F S1x1024 .f32
  A : Vec F S2x64x512 .f32

/-- One trip on the carried values. -/
def next (x1 : Vec F S1x8192x128 .bf16) (x2 : Vec F S1x64x128x128 .bf16) (wq : Vec F S128x1024 .bf16)
    (k : Fin k0_t1_loop.trips) (s : St F) : St F :=
  ⟨nextM x1 wq k s.M, nextL x1 wq k s.M s.L, nextA x1 x2 wq k s.M s.A⟩

/-- The carried values after `k` trips. -/
def stAt (x1 : Vec F S1x8192x128 .bf16) (x2 : Vec F S1x64x128x128 .bf16) (wq : Vec F S128x1024 .bf16) (s : St F) : ℕ → St F
  | 0 => s
  | k + 1 => if h : k < k0_t1_loop.trips then next x1 x2 wq ⟨k, h⟩ (stAt x1 x2 wq s k) else stAt x1 x2 wq s k

theorem cover_acc (y : S2x64x512.Idx) (p q : View.Piece (Elt F) S2x64x512 .f32) (hp : p.1 = accRect1) (hq : q.1 = accRect0) :
    ∃ r ∈ [p, q], y ∈ r.1.set := by
  have h0 : (y 0 : ℕ) < 2 := (y 0).isLt
  have h1 : (y 1 : ℕ) < 64 := (y 1).isLt
  have h2 : (y 2 : ℕ) < 512 := (y 2).isLt
  by_cases h : (y 0 : ℕ) = 1
  · refine ⟨p, by simp, ?_⟩
    rw [hp, Rect.mem_set_unit]
    intro a
    match a with
    | ⟨0, _⟩ => show 1 ≤ (y 0 : ℕ) ∧ (y 0 : ℕ) < 1 + 1; omega
    | ⟨1, _⟩ => show 0 ≤ (y 1 : ℕ) ∧ (y 1 : ℕ) < 0 + 64; omega
    | ⟨2, _⟩ => show 0 ≤ (y 2 : ℕ) ∧ (y 2 : ℕ) < 0 + 512; omega
  · refine ⟨q, by simp, ?_⟩
    rw [hq, Rect.mem_set_unit]
    intro a
    match a with
    | ⟨0, _⟩ => show 0 ≤ (y 0 : ℕ) ∧ (y 0 : ℕ) < 0 + 1; omega
    | ⟨1, _⟩ => show 0 ≤ (y 1 : ℕ) ∧ (y 1 : ℕ) < 0 + 64; omega
    | ⟨2, _⟩ => show 0 ≤ (y 2 : ℕ) ∧ (y 2 : ℕ) < 0 + 512; omega

theorem cover_row (y : S1x1024.Idx) (p : View.Piece (Elt F) S1x1024 .f32)
    (hp : p.1 = Rect.unit (s := S1x1024) ![0, 0] S1x1024.size inb_S1x1024_S1x1024_0_0) :
    ∃ r ∈ [p], y ∈ r.1.set := by
  have h0 : (y 0 : ℕ) < 1 := (y 0).isLt
  have h1 : (y 1 : ℕ) < 1024 := (y 1).isLt
  refine ⟨p, by simp, ?_⟩
  rw [hp, Rect.mem_set_unit]
  intro a
  match a with
  | ⟨0, _⟩ => show 0 ≤ (y 0 : ℕ) ∧ (y 0 : ℕ) < 0 + 1; omega
  | ⟨1, _⟩ => show 0 ≤ (y 1 : ℕ) ∧ (y 1 : ℕ) < 0 + 1024; omega

theorem hz2 : (![0, 0] : Fin 2 → Nat) = fun _ => 0 := funext fun a => by fin_cases a <;> rfl
theorem hz3 : (![0, 0, 0] : Fin 3 → Nat) = fun _ => 0 := funext fun a => by fin_cases a <;> rfl

theorem trip_read (𝒱 : Variants) (c : Dev nD) (bd : Option 𝒱.V) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x64x128x128 .bf16) (harg4 : arg4.IsWhole) (arg5 : Memref sig .tc .vmem S1x128x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x64x512 .f32) (harg9 : arg9.IsWhole) (v1 : FVec F S512x128 .bf16) (v2 : FVec F S64x128 .bf16) (v34 : FVec F S128x128 .bf16) (X_arg3 : BufTy.Contents (Elt F) arg3.view.ty) (X_arg4 : BufTy.Contents (Elt F) arg4.view.ty) (X_arg6 : BufTy.Contents (Elt F) arg6.view.ty) (k : Fin k0_t1_loop.trips) (f7 : BufTy.Contents (Elt F) arg7.view.ty) (f8 : BufTy.Contents (Elt F) arg8.view.ty) (f9 : BufTy.Contents (Elt F) arg9.view.ty) :
    (arg7.view.read (Elt F) (arg7.view.writes (Elt F) f7 (tripL_k0_t1 (F := F) 𝒱 c bd i arg2 harg2 arg3 harg3 arg4 harg4 arg5 harg5 arg6 harg6 arg7 harg7 arg8 harg8 arg9 harg9 v1 v2 v34 X_arg3 X_arg4 X_arg6 k f7 f8 f9).1)
        = nextM (arg3.view.read (Elt F) X_arg3) (arg6.view.read (Elt F) X_arg6) k (arg7.view.read (Elt F) f7))
    ∧ (arg8.view.read (Elt F) (arg8.view.writes (Elt F) f8 (tripL_k0_t1 (F := F) 𝒱 c bd i arg2 harg2 arg3 harg3 arg4 harg4 arg5 harg5 arg6 harg6 arg7 harg7 arg8 harg8 arg9 harg9 v1 v2 v34 X_arg3 X_arg4 X_arg6 k f7 f8 f9).2.1)
        = nextL (arg3.view.read (Elt F) X_arg3) (arg6.view.read (Elt F) X_arg6) k (arg7.view.read (Elt F) f7) (arg8.view.read (Elt F) f8))
    ∧ (arg9.view.read (Elt F) (arg9.view.writes (Elt F) f9 (tripL_k0_t1 (F := F) 𝒱 c bd i arg2 harg2 arg3 harg3 arg4 harg4 arg5 harg5 arg6 harg6 arg7 harg7 arg8 harg8 arg9 harg9 v1 v2 v34 X_arg3 X_arg4 X_arg6 k f7 f8 f9).2.2)
        = nextA (arg3.view.read (Elt F) X_arg3) (arg4.view.read (Elt F) X_arg4) (arg6.view.read (Elt F) X_arg6) k (arg7.view.read (Elt F) f7) (arg9.view.read (Elt F) f9)) := by
  unfold tripL_k0_t1 trip_k0_t1
  dsimp only
  sl_unfold_words
  simp only [View.readAt_eq_ld]
  refine ⟨?_, ?_, ?_⟩
  · rw [View.read_writes_eq_canon _ _ _ (fun y => cover_row y _ rfl), View.canon_unit_zero hz2]
    simp only [View.ld_unit_zero (S := S1x1024) hz2, View.ld_unit_zero (S := S128x1024) hz2]
    rfl
  · rw [View.read_writes_eq_canon _ _ _ (fun y => cover_row y _ rfl), View.canon_unit_zero hz2]
    simp only [View.ld_unit_zero (S := S1x1024) hz2, View.ld_unit_zero (S := S128x1024) hz2]
    rfl
  · rw [View.read_writes_eq_canon _ _ _ (fun y => cover_acc y _ _ rfl rfl)]
    simp only [View.ld_unit_zero (S := S1x1024) hz2, View.ld_unit_zero (S := S128x1024) hz2]
    rfl

attribute [irreducible] nextM nextL nextA

theorem next_M (x1 : Vec F S1x8192x128 .bf16) (x2 : Vec F S1x64x128x128 .bf16) (wq : Vec F S128x1024 .bf16) (k : Fin k0_t1_loop.trips)
    (M L : Vec F S1x1024 .f32) (A : Vec F S2x64x512 .f32) : (next x1 x2 wq k ⟨M, L, A⟩).M = nextM x1 wq k M := by simp only [next]
theorem next_L (x1 : Vec F S1x8192x128 .bf16) (x2 : Vec F S1x64x128x128 .bf16) (wq : Vec F S128x1024 .bf16) (k : Fin k0_t1_loop.trips)
    (M L : Vec F S1x1024 .f32) (A : Vec F S2x64x512 .f32) : (next x1 x2 wq k ⟨M, L, A⟩).L = nextL x1 wq k M L := by simp only [next]
theorem next_A (x1 : Vec F S1x8192x128 .bf16) (x2 : Vec F S1x64x128x128 .bf16) (wq : Vec F S128x1024 .bf16) (k : Fin k0_t1_loop.trips)
    (M L : Vec F S1x1024 .f32) (A : Vec F S2x64x512 .f32) : (next x1 x2 wq k ⟨M, L, A⟩).A = nextA x1 x2 wq k M A := by simp only [next]

/-- The same with the three carried values as one step. -/
theorem trip_next (𝒱 : Variants) (c : Dev nD) (bd : Option 𝒱.V) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x64x128x128 .bf16) (harg4 : arg4.IsWhole) (arg5 : Memref sig .tc .vmem S1x128x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x64x512 .f32) (harg9 : arg9.IsWhole) (v1 : FVec F S512x128 .bf16) (v2 : FVec F S64x128 .bf16) (v34 : FVec F S128x128 .bf16) (X_arg3 : BufTy.Contents (Elt F) arg3.view.ty) (X_arg4 : BufTy.Contents (Elt F) arg4.view.ty) (X_arg6 : BufTy.Contents (Elt F) arg6.view.ty) (k : Fin k0_t1_loop.trips) (f7 : BufTy.Contents (Elt F) arg7.view.ty) (f8 : BufTy.Contents (Elt F) arg8.view.ty) (f9 : BufTy.Contents (Elt F) arg9.view.ty) :
    (arg7.view.read (Elt F) (arg7.view.writes (Elt F) f7 (tripL_k0_t1 (F := F) 𝒱 c bd i arg2 harg2 arg3 harg3 arg4 harg4 arg5 harg5 arg6 harg6 arg7 harg7 arg8 harg8 arg9 harg9 v1 v2 v34 X_arg3 X_arg4 X_arg6 k f7 f8 f9).1)
        = (next (arg3.view.read (Elt F) X_arg3) (arg4.view.read (Elt F) X_arg4) (arg6.view.read (Elt F) X_arg6) k
          ⟨arg7.view.read (Elt F) f7, arg8.view.read (Elt F) f8, arg9.view.read (Elt F) f9⟩).M)
    ∧ (arg8.view.read (Elt F) (arg8.view.writes (Elt F) f8 (tripL_k0_t1 (F := F) 𝒱 c bd i arg2 harg2 arg3 harg3 arg4 harg4 arg5 harg5 arg6 harg6 arg7 harg7 arg8 harg8 arg9 harg9 v1 v2 v34 X_arg3 X_arg4 X_arg6 k f7 f8 f9).2.1)
        = (next (arg3.view.read (Elt F) X_arg3) (arg4.view.read (Elt F) X_arg4) (arg6.view.read (Elt F) X_arg6) k
          ⟨arg7.view.read (Elt F) f7, arg8.view.read (Elt F) f8, arg9.view.read (Elt F) f9⟩).L)
    ∧ (arg9.view.read (Elt F) (arg9.view.writes (Elt F) f9 (tripL_k0_t1 (F := F) 𝒱 c bd i arg2 harg2 arg3 harg3 arg4 harg4 arg5 harg5 arg6 harg6 arg7 harg7 arg8 harg8 arg9 harg9 v1 v2 v34 X_arg3 X_arg4 X_arg6 k f7 f8 f9).2.2)
        = (next (arg3.view.read (Elt F) X_arg3) (arg4.view.read (Elt F) X_arg4) (arg6.view.read (Elt F) X_arg6) k
          ⟨arg7.view.read (Elt F) f7, arg8.view.read (Elt F) f8, arg9.view.read (Elt F) f9⟩).A) := by
  obtain ⟨h7, h8, h9⟩ := trip_read 𝒱 c bd i arg2 harg2 arg3 harg3 arg4 harg4 arg5 harg5 arg6 harg6 arg7 harg7 arg8 harg8 arg9 harg9 v1 v2 v34 X_arg3 X_arg4 X_arg6 k f7 f8 f9
  exact ⟨h7.trans (next_M ..).symm, h8.trans (next_L ..).symm, h9.trans (next_A ..).symm⟩

/-- Three buffers written by one more trip: if the trip's writes read back as a step of what it found, the longer list of
    writes reads back as the step of what the shorter list read back as. -/
theorem reads_succ {w7 w8 : View sig .tc .vmem S1x1024 .f32} {w9 : View sig .tc .vmem S2x64x512 .f32}
    (G7 : BufTy.Contents (Elt F) w7.ty) (G8 : BufTy.Contents (Elt F) w8.ty) (G9 : BufTy.Contents (Elt F) w9.ty)
    (T : BufTy.Contents (Elt F) w7.ty → BufTy.Contents (Elt F) w8.ty → BufTy.Contents (Elt F) w9.ty →
      List (View.Piece (Elt F) S1x1024 .f32) × List (View.Piece (Elt F) S1x1024 .f32) × List (View.Piece (Elt F) S2x64x512 .f32))
    (N : St F → St F)
    (hT : ∀ f7 f8 f9,
      (w7.read (Elt F) (w7.writes (Elt F) f7 (T f7 f8 f9).1) = (N ⟨w7.read (Elt F) f7, w8.read (Elt F) f8, w9.read (Elt F) f9⟩).M)
      ∧ (w8.read (Elt F) (w8.writes (Elt F) f8 (T f7 f8 f9).2.1) = (N ⟨w7.read (Elt F) f7, w8.read (Elt F) f8, w9.read (Elt F) f9⟩).L)
      ∧ (w9.read (Elt F) (w9.writes (Elt F) f9 (T f7 f8 f9).2.2) = (N ⟨w7.read (Elt F) f7, w8.read (Elt F) f8, w9.read (Elt F) f9⟩).A))
    (P P' : List (View.Piece (Elt F) S1x1024 .f32) × List (View.Piece (Elt F) S1x1024 .f32) × List (View.Piece (Elt F) S2x64x512 .f32))
    (hP : P' = ((T (w7.writes (Elt F) G7 P.1) (w8.writes (Elt F) G8 P.2.1) (w9.writes (Elt F) G9 P.2.2)).1 ++ P.1,
      (T (w7.writes (Elt F) G7 P.1) (w8.writes (Elt F) G8 P.2.1) (w9.writes (Elt F) G9 P.2.2)).2.1 ++ P.2.1,
      (T (w7.writes (Elt F) G7 P.1) (w8.writes (Elt F) G8 P.2.1) (w9.writes (Elt F) G9 P.2.2)).2.2 ++ P.2.2))
    (s : St F)
    (hs : (⟨w7.read (Elt F) (w7.writes (Elt F) G7 P.1), w8.read (Elt F) (w8.writes (Elt F) G8 P.2.1),
      w9.read (Elt F) (w9.writes (Elt F) G9 P.2.2)⟩ : St F) = s) :
    (⟨w7.read (Elt F) (w7.writes (Elt F) G7 P'.1), w8.read (Elt F) (w8.writes (Elt F) G8 P'.2.1),
      w9.read (Elt F) (w9.writes (Elt F) G9 P'.2.2)⟩ : St F) = N s := by
  subst hs hP
  obtain ⟨h7, h8, h9⟩ := hT (w7.writes (Elt F) G7 P.1) (w8.writes (Elt F) G8 P.2.1) (w9.writes (Elt F) G9 P.2.2)
  simp only [View.writes_append, h7, h8, h9]

theorem stAt_succ (x1 : Vec F S1x8192x128 .bf16) (x2 : Vec F S1x64x128x128 .bf16) (wq : Vec F S128x1024 .bf16) (s : St F)
    (k : ℕ) (h : k < k0_t1_loop.trips) : stAt x1 x2 wq s (k + 1) = next x1 x2 wq ⟨k, h⟩ (stAt x1 x2 wq s k) := by
  rw [stAt]; exact dif_pos h

/-- Three buffers written by a counted loop whose list of writes grows by one trip's writes at a time: they read back as the
    carried values. -/
theorem reads_loop {w7 w8 : View sig .tc .vmem S1x1024 .f32} {w9 : View sig .tc .vmem S2x64x512 .f32}
    (G7 : BufTy.Contents (Elt F) w7.ty) (G8 : BufTy.Contents (Elt F) w8.ty) (G9 : BufTy.Contents (Elt F) w9.ty)
    (T : Fin k0_t1_loop.trips → BufTy.Contents (Elt F) w7.ty → BufTy.Contents (Elt F) w8.ty → BufTy.Contents (Elt F) w9.ty →
      List (View.Piece (Elt F) S1x1024 .f32) × List (View.Piece (Elt F) S1x1024 .f32) × List (View.Piece (Elt F) S2x64x512 .f32))
    (x1 : Vec F S1x8192x128 .bf16) (x2 : Vec F S1x64x128x128 .bf16) (wq : Vec F S128x1024 .bf16)
    (hT : ∀ k f7 f8 f9,
      (w7.read (Elt F) (w7.writes (Elt F) f7 (T k f7 f8 f9).1) = (next x1 x2 wq k ⟨w7.read (Elt F) f7, w8.read (Elt F) f8, w9.read (Elt F) f9⟩).M)
      ∧ (w8.read (Elt F) (w8.writes (Elt F) f8 (T k f7 f8 f9).2.1) = (next x1 x2 wq k ⟨w7.read (Elt F) f7, w8.read (Elt F) f8, w9.read (Elt F) f9⟩).L)
      ∧ (w9.read (Elt F) (w9.writes (Elt F) f9 (T k f7 f8 f9).2.2) = (next x1 x2 wq k ⟨w7.read (Elt F) f7, w8.read (Elt F) f8, w9.read (Elt F) f9⟩).A))
    (P : ℕ → List (View.Piece (Elt F) S1x1024 .f32) × List (View.Piece (Elt F) S1x1024 .f32) × List (View.Piece (Elt F) S2x64x512 .f32))
    (h0 : P 0 = ([], [], []))
    (hP : ∀ k : Fin k0_t1_loop.trips, P (k.val + 1) = (
      (T k (w7.writes (Elt F) G7 (P k.val).1) (w8.writes (Elt F) G8 (P k.val).2.1) (w9.writes (Elt F) G9 (P k.val).2.2)).1 ++ (P k.val).1,
      (T k (w7.writes (Elt F) G7 (P k.val).1) (w8.writes (Elt F) G8 (P k.val).2.1) (w9.writes (Elt F) G9 (P k.val).2.2)).2.1 ++ (P k.val).2.1,
      (T k (w7.writes (Elt F) G7 (P k.val).1) (w8.writes (Elt F) G8 (P k.val).2.1) (w9.writes (Elt F) G9 (P k.val).2.2)).2.2 ++ (P k.val).2.2))
    (k : ℕ) (hk : k ≤ k0_t1_loop.trips) :
    (⟨w7.read (Elt F) (w7.writes (Elt F) G7 (P k).1), w8.read (Elt F) (w8.writes (Elt F) G8 (P k).2.1),
      w9.read (Elt F) (w9.writes (Elt F) G9 (P k).2.2)⟩ : St F)
      = stAt x1 x2 wq ⟨w7.read (Elt F) G7, w8.read (Elt F) G8, w9.read (Elt F) G9⟩ k := by
  induction k with
  | zero => rw [h0]; rfl
  | succ k ih =>
    rw [stAt_succ _ _ _ _ k hk]
    exact reads_succ G7 G8 G9 (T ⟨k, hk⟩) _ (hT ⟨k, hk⟩) (P k) (P (k + 1)) (hP ⟨k, hk⟩) _ (ih (Nat.le_of_succ_le hk))

end AttnAHand
-- ==== Proof.AttnALoop.lean ====
module

public import proofs.«01_k».proof.Proof.AttnATrip

@[expose] public section

set_option maxRecDepth 16384

noncomputable section

namespace AttnAHand

open Cert.AttnAIdeal Cert.AttnAIdeal.Gen Idealize.ShloMosaic Idealize.ShloMosaic.TcCoe Idealize.SL.Sem

variable {F : FTy → Type} [FloatOps F]

/-- After `k` trips the three carried buffers read back as the carried values after `k` trips. -/
theorem loop_read (𝒱 : Variants) (c : Dev nD) (bd : Option 𝒱.V) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x64x128x128 .bf16) (harg4 : arg4.IsWhole) (arg5 : Memref sig .tc .vmem S1x128x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x64x512 .f32) (harg9 : arg9.IsWhole) (v1 : FVec F S512x128 .bf16) (v2 : FVec F S64x128 .bf16) (v34 : FVec F S128x128 .bf16) (X_arg3 : BufTy.Contents (Elt F) arg3.view.ty) (X_arg4 : BufTy.Contents (Elt F) arg4.view.ty) (X_arg6 : BufTy.Contents (Elt F) arg6.view.ty) (G7 : BufTy.Contents (Elt F) arg7.view.ty) (G8 : BufTy.Contents (Elt F) arg8.view.ty) (G9 : BufTy.Contents (Elt F) arg9.view.ty)
    (k : ℕ) (hk : k ≤ k0_t1_loop.trips) :
    (⟨arg7.view.read (Elt F) (arg7.view.writes (Elt F) G7 (pb_k0_t1 (F := F) 𝒱 c bd i arg2 harg2 arg3 harg3 arg4 harg4 arg5 harg5 arg6 harg6 arg7 harg7 arg8 harg8 arg9 harg9 v1 v2 v34 X_arg3 X_arg4 X_arg6 G7 G8 G9 k).1),
      arg8.view.read (Elt F) (arg8.view.writes (Elt F) G8 (pb_k0_t1 (F := F) 𝒱 c bd i arg2 harg2 arg3 harg3 arg4 harg4 arg5 harg5 arg6 harg6 arg7 harg7 arg8 harg8 arg9 harg9 v1 v2 v34 X_arg3 X_arg4 X_arg6 G7 G8 G9 k).2.1),
      arg9.view.read (Elt F) (arg9.view.writes (Elt F) G9 (pb_k0_t1 (F := F) 𝒱 c bd i arg2 harg2 arg3 harg3 arg4 harg4 arg5 harg5 arg6 harg6 arg7 harg7 arg8 harg8 arg9 harg9 v1 v2 v34 X_arg3 X_arg4 X_arg6 G7 G8 G9 k).2.2)⟩ : St F)
    = stAt (arg3.view.read (Elt F) X_arg3) (arg4.view.read (Elt F) X_arg4) (arg6.view.read (Elt F) X_arg6)
        ⟨arg7.view.read (Elt F) G7, arg8.view.read (Elt F) G8, arg9.view.read (Elt F) G9⟩ k := by
  refine reads_loop (w7 := arg7.view) (w8 := arg8.view) (w9 := arg9.view) G7 G8 G9
    (tripL_k0_t1 (F := F) 𝒱 c bd i arg2 harg2 arg3 harg3 arg4 harg4 arg5 harg5 arg6 harg6 arg7 harg7 arg8 harg8 arg9 harg9 v1 v2 v34 X_arg3 X_arg4 X_arg6)
    _ _ _ ?_ (pb_k0_t1 (F := F) 𝒱 c bd i arg2 harg2 arg3 harg3 arg4 harg4 arg5 harg5 arg6 harg6 arg7 harg7 arg8 harg8 arg9 harg9 v1 v2 v34 X_arg3 X_arg4 X_arg6 G7 G8 G9) ?_ ?_ k hk
  · intro k f7 f8 f9
    exact trip_next 𝒱 c bd i arg2 harg2 arg3 harg3 arg4 harg4 arg5 harg5 arg6 harg6 arg7 harg7 arg8 harg8 arg9 harg9 v1 v2 v34 X_arg3 X_arg4 X_arg6 k f7 f8 f9
  · unfold pb_k0_t1; rfl
  · intro k
    exact pb_k0_t1_succ 𝒱 c bd i arg2 harg2 arg3 harg3 arg4 harg4 arg5 harg5 arg6 harg6 arg7 harg7 arg8 harg8 arg9 harg9 v1 v2 v34 X_arg3 X_arg4 X_arg6 G7 G8 G9 k

end AttnAHand
-- ==== Proof.AttnABlock.lean ====
module

public import proofs.«01_k».proof.Proof.AttnALoop
public import proofs.«01_k».proof.Proof.Gen.AttnAIdeal.Value
public import Idealize.ShloMosaic.Lib.Pipeline.ValueKit
public import Idealize.ShloMosaic.Lib.Pipeline.ReadBack

@[expose] public section

set_option maxRecDepth 16384

noncomputable section

namespace AttnAHand

open Cert.AttnAIdeal Cert.AttnAIdeal.Gen Idealize.ShloMosaic Idealize.ShloMosaic.TcCoe Idealize.SL.Sem

variable {F : FTy → Type} [FloatOps F]

/-- The query block laid out for the score product: one 128-column block per head, zero outside the head's rows. -/
def wqv (x0 : Vec F S1x512x128 .bf16) : Vec F S128x1024 .bf16 :=
  View.canon (Val := Elt F)
    [⟨Rect.unit (s := S128x1024) ![0, 896] S128x128.size inb_S128x1024_S128x128_0_896, k0_pay20 (k0_pay10 x0) k0_pay11⟩,
     ⟨Rect.unit (s := S128x1024) ![0, 768] S128x128.size inb_S128x1024_S128x128_0_768, k0_pay19 (k0_pay18 x0)⟩,
     ⟨Rect.unit (s := S128x1024) ![0, 640] S128x128.size inb_S128x1024_S128x128_0_640, k0_pay17 x0⟩,
     ⟨Rect.unit (s := S128x1024) ![0, 512] S128x128.size inb_S128x1024_S128x128_0_512, k0_pay16 x0⟩,
     ⟨Rect.unit (s := S128x1024) ![0, 384] S128x128.size inb_S128x1024_S128x128_0_384, k0_pay15 x0⟩,
     ⟨Rect.unit (s := S128x1024) ![0, 256] S128x128.size inb_S128x1024_S128x128_0_256, k0_pay14 x0⟩,
     ⟨Rect.unit (s := S128x1024) ![0, 128] S128x128.size inb_S128x1024_S128x128_0_128, k0_pay13 x0⟩,
     ⟨Rect.unit (s := S128x1024) ![0, 0] S128x128.size inb_S128x1024_S128x128_0_0, k0_pay12 x0⟩]

theorem mem_wq (y : S128x1024.Idx) (n : ℕ) (inb : ∀ a, (![0, n] : Fin 2 → ℕ) a + S128x128.size a ≤ S128x1024.size a)
    (h : n ≤ (y 1 : ℕ) ∧ (y 1 : ℕ) < n + 128) : y ∈ (Rect.unit (s := S128x1024) ![0, n] S128x128.size inb).set := by
  have h0 : (y 0 : ℕ) < 128 := (y 0).isLt
  rw [Rect.mem_set_unit]
  intro a
  match a with
  | ⟨0, _⟩ => show 0 ≤ (y 0 : ℕ) ∧ (y 0 : ℕ) < 0 + 128; omega
  | ⟨1, _⟩ => show n ≤ (y 1 : ℕ) ∧ (y 1 : ℕ) < n + 128; omega

/-- The eight column blocks fill the laid-out query block. -/
theorem cover_wq (y : S128x1024.Idx) (p7 p6 p5 p4 p3 p2 p1 p0 : S128x128.Idx → Elt F .bf16) :
    ∃ r ∈ ([⟨Rect.unit (s := S128x1024) ![0, 896] S128x128.size inb_S128x1024_S128x128_0_896, p7⟩, ⟨Rect.unit (s := S128x1024) ![0, 768] S128x128.size inb_S128x1024_S128x128_0_768, p6⟩, ⟨Rect.unit (s := S128x1024) ![0, 640] S128x128.size inb_S128x1024_S128x128_0_640, p5⟩, ⟨Rect.unit (s := S128x1024) ![0, 512] S128x128.size inb_S128x1024_S128x128_0_512, p4⟩, ⟨Rect.unit (s := S128x1024) ![0, 384] S128x128.size inb_S128x1024_S128x128_0_384, p3⟩, ⟨Rect.unit (s := S128x1024) ![0, 256] S128x128.size inb_S128x1024_S128x128_0_256, p2⟩, ⟨Rect.unit (s := S128x1024) ![0, 128] S128x128.size inb_S128x1024_S128x128_0_128, p1⟩, ⟨Rect.unit (s := S128x1024) ![0, 0] S128x128.size inb_S128x1024_S128x128_0_0, p0⟩] : List (View.Piece (Elt F) S128x1024 .bf16)), y ∈ r.1.set := by
  have h1 : (y 1 : ℕ) < 1024 := (y 1).isLt
  have h : ((y 1 : ℕ) < 128 ∨ 128 ≤ (y 1 : ℕ) ∧ (y 1 : ℕ) < 256 ∨ 256 ≤ (y 1 : ℕ) ∧ (y 1 : ℕ) < 384 ∨ 384 ≤ (y 1 : ℕ) ∧ (y 1 : ℕ) < 512)
      ∨ (512 ≤ (y 1 : ℕ) ∧ (y 1 : ℕ) < 640 ∨ 640 ≤ (y 1 : ℕ) ∧ (y 1 : ℕ) < 768 ∨ 768 ≤ (y 1 : ℕ) ∧ (y 1 : ℕ) < 896 ∨ 896 ≤ (y 1 : ℕ)) := by omega
  simp only [List.mem_cons, List.not_mem_nil, or_false, exists_eq_or_imp, exists_eq_left]
  rcases h with (h | h | h | h) | (h | h | h | h)
  · exact Or.inr (Or.inr (Or.inr (Or.inr (Or.inr (Or.inr (Or.inr (mem_wq y 0 _ (by omega))))))))
  · exact Or.inr (Or.inr (Or.inr (Or.inr (Or.inr (Or.inr (Or.inl (mem_wq y 128 _ (by omega))))))))
  · exact Or.inr (Or.inr (Or.inr (Or.inr (Or.inr (Or.inl (mem_wq y 256 _ (by omega)))))))
  · exact Or.inr (Or.inr (Or.inr (Or.inr (Or.inl (mem_wq y 384 _ (by omega))))))
  · exact Or.inr (Or.inr (Or.inr (Or.inl (mem_wq y 512 _ (by omega)))))
  · exact Or.inr (Or.inr (Or.inl (mem_wq y 640 _ (by omega))))
  · exact Or.inr (Or.inl (mem_wq y 768 _ (by omega)))
  · exact Or.inl (mem_wq y 896 _ (by omega))

theorem cover_all (y : S2x64x512.Idx) (p : View.Piece (Elt F) S2x64x512 .f32)
    (hp : p.1 = Rect.unit (s := S2x64x512) ![0, 0, 0] S2x64x512.size inb_S2x64x512_S2x64x512_0_0_0) :
    ∃ r ∈ [p], y ∈ r.1.set := by
  refine ⟨p, by simp, ?_⟩
  rw [hp, Rect.mem_set_unit]
  intro a
  have := (y a).isLt
  match a with
  | ⟨0, _⟩ | ⟨1, _⟩ | ⟨2, _⟩ => exact ⟨Nat.zero_le _, by simpa using this⟩

theorem cover_out (y : S1x128x512.Idx) (p : View.Piece (Elt F) S1x128x512 .bf16)
    (hp : p.1 = Rect.unit (s := S1x128x512) ![0, 0, 0] S1x128x512.size inb_S1x128x512_S1x128x512_0_0_0) :
    ∃ r ∈ [p], y ∈ r.1.set := by
  refine ⟨p, by simp, ?_⟩
  rw [hp, Rect.mem_set_unit]
  intro a
  have := (y a).isLt
  match a with
  | ⟨0, _⟩ | ⟨1, _⟩ | ⟨2, _⟩ => exact ⟨Nat.zero_le _, by simpa using this⟩

/-- The carried values at the loop's end. -/
def fin (x0 : Vec F S1x512x128 .bf16) (x1 : Vec F S1x8192x128 .bf16) (x2 : Vec F S1x64x128x128 .bf16) : St F :=
  stAt x1 x2 (wqv x0) ⟨k0_pay21, k0_pay22, k0_pay23⟩ k0_t1_loop.trips

/-- The output block from the final denominator and the two slabs of the final numerator. -/
def outv (L : Vec F S1x1024 .f32) (A0 A1 : Vec F S1x64x512 .f32) : Vec F S1x128x512 .bf16 :=
  k0_pay1 (k0_pay28 L A0) (k0_pay29 (k0_pay27 L) A0) (k0_pay30 (k0_pay27 L) A0) (k0_pay31 (k0_pay27 L) A0)
    (k0_pay32 (k0_pay27 L) A1) (k0_pay33 (k0_pay27 L) A1) (k0_pay34 (k0_pay27 L) A1) (k0_pay35 A1) (k0_pay36 (k0_pay27 L))

theorem out_block (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x64x128x128 .bf16) (harg4 : arg4.IsWhole) (arg5 : Memref sig .tc .vmem S1x128x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x64x512 .f32) (harg9 : arg9.IsWhole) (x0 : Vec F S1x512x128 .bf16) (x1 : Vec F S1x8192x128 .bf16) (x2 : Vec F S1x64x128x128 .bf16):
  out0_A_3 (F := F) c i arg2 harg2 arg3 harg3 arg4 harg4 arg5 harg5 arg6 harg6 arg7 harg7 arg8 harg8 arg9 harg9 x0 x1 x2 =
    outv (fin x0 x1 x2).L (View.ld (fin x0 x1 x2).A accRect0) (View.ld (fin x0 x1 x2).A accRect1) := by
  have h := loop_read (F := F) Variants.none c none i arg2 harg2 arg3 harg3 arg4 harg4 arg5 harg5 arg6 harg6 arg7 harg7 arg8 harg8 arg9 harg9 (k0_pay10 x0) k0_pay11 (k0_pay18 x0) (harg3.unread x1) (harg4.unread x2)
    (arg6.view.writes (Elt F) arg6.view.junk [⟨Rect.unit (s := S128x1024) ![0, 896] S128x128.size inb_S128x1024_S128x128_0_896, k0_pay20 (k0_pay10 x0) k0_pay11⟩, ⟨Rect.unit (s := S128x1024) ![0, 768] S128x128.size inb_S128x1024_S128x128_0_768, k0_pay19 (k0_pay18 x0)⟩, ⟨Rect.unit (s := S128x1024) ![0, 640] S128x128.size inb_S128x1024_S128x128_0_640, k0_pay17 x0⟩, ⟨Rect.unit (s := S128x1024) ![0, 512] S128x128.size inb_S128x1024_S128x128_0_512, k0_pay16 x0⟩, ⟨Rect.unit (s := S128x1024) ![0, 384] S128x128.size inb_S128x1024_S128x128_0_384, k0_pay15 x0⟩, ⟨Rect.unit (s := S128x1024) ![0, 256] S128x128.size inb_S128x1024_S128x128_0_256, k0_pay14 x0⟩, ⟨Rect.unit (s := S128x1024) ![0, 128] S128x128.size inb_S128x1024_S128x128_0_128, k0_pay13 x0⟩, ⟨Rect.unit (s := S128x1024) ![0, 0] S128x128.size inb_S128x1024_S128x128_0_0, k0_pay12 x0⟩])
    (arg7.view.writes (Elt F) arg7.view.junk [⟨Rect.unit (s := S1x1024) ![0, 0] S1x1024.size inb_S1x1024_S1x1024_0_0, k0_pay21⟩])
    (arg8.view.writes (Elt F) arg8.view.junk [⟨Rect.unit (s := S1x1024) ![0, 0] S1x1024.size inb_S1x1024_S1x1024_0_0, k0_pay22⟩])
    (arg9.view.writes (Elt F) arg9.view.junk [⟨Rect.unit (s := S2x64x512) ![0, 0, 0] S2x64x512.size inb_S2x64x512_S2x64x512_0_0_0, k0_pay23⟩])
    (Scf.trips k0_t1_loop.lb k0_t1_loop.ub k0_t1_loop.st) (le_refl _)
  have hw : arg6.view.read (Elt F) (arg6.view.writes (Elt F) arg6.view.junk [⟨Rect.unit (s := S128x1024) ![0, 896] S128x128.size inb_S128x1024_S128x128_0_896, k0_pay20 (k0_pay10 x0) k0_pay11⟩, ⟨Rect.unit (s := S128x1024) ![0, 768] S128x128.size inb_S128x1024_S128x128_0_768, k0_pay19 (k0_pay18 x0)⟩, ⟨Rect.unit (s := S128x1024) ![0, 640] S128x128.size inb_S128x1024_S128x128_0_640, k0_pay17 x0⟩, ⟨Rect.unit (s := S128x1024) ![0, 512] S128x128.size inb_S128x1024_S128x128_0_512, k0_pay16 x0⟩, ⟨Rect.unit (s := S128x1024) ![0, 384] S128x128.size inb_S128x1024_S128x128_0_384, k0_pay15 x0⟩, ⟨Rect.unit (s := S128x1024) ![0, 256] S128x128.size inb_S128x1024_S128x128_0_256, k0_pay14 x0⟩, ⟨Rect.unit (s := S128x1024) ![0, 128] S128x128.size inb_S128x1024_S128x128_0_128, k0_pay13 x0⟩, ⟨Rect.unit (s := S128x1024) ![0, 0] S128x128.size inb_S128x1024_S128x128_0_0, k0_pay12 x0⟩]) = wqv x0 :=
    View.read_writes_eq_canon _ _ _ (fun y => cover_wq y _ _ _ _ _ _ _ _)
  have h7 : arg7.view.read (Elt F) (arg7.view.writes (Elt F) arg7.view.junk [⟨Rect.unit (s := S1x1024) ![0, 0] S1x1024.size inb_S1x1024_S1x1024_0_0, k0_pay21⟩]) = k0_pay21 :=
    (View.read_writes_eq_canon _ _ _ (fun y => cover_row y _ rfl)).trans (View.canon_unit_zero hz2 _ _)
  have h8 : arg8.view.read (Elt F) (arg8.view.writes (Elt F) arg8.view.junk [⟨Rect.unit (s := S1x1024) ![0, 0] S1x1024.size inb_S1x1024_S1x1024_0_0, k0_pay22⟩]) = k0_pay22 :=
    (View.read_writes_eq_canon _ _ _ (fun y => cover_row y _ rfl)).trans (View.canon_unit_zero hz2 _ _)
  have h9 : arg9.view.read (Elt F) (arg9.view.writes (Elt F) arg9.view.junk [⟨Rect.unit (s := S2x64x512) ![0, 0, 0] S2x64x512.size inb_S2x64x512_S2x64x512_0_0_0, k0_pay23⟩]) = k0_pay23 :=
    (View.read_writes_eq_canon _ _ _ (fun y => cover_all y _ rfl)).trans (View.canon_unit_zero hz3 _ _)
  rw [hw, h7, h8, h9, harg3.read_unread, harg4.read_unread] at h
  have hL := congrArg St.L h
  have hA := congrArg St.A h
  dsimp only at hL hA
  clear h hw h7 h8 h9
  unfold out0_A_3
  frame_open
  sl_unfold_words
  unfold View.readCov
  simp only [View.writes_append, View.readAt_eq_ld, Memref.IsWhole.read_unread, View.ld_unit_zero (S := S1x512x128) hz3,
    View.ld_unit_zero (S := S1x1024) hz2]
  rw [hL, hA, show Scf.trips (0#32) (Scalar.addi 0#32 32#32) 1#32 = k0_t1_loop.trips from rfl]
  unfold fin outv
  clear hL hA
  generalize stAt (F := F) x1 x2 (wqv x0) _ _ = Z
  rw [View.read_writes_eq_canon _ _ _ (fun y => cover_out y _ rfl), View.canon_unit_zero hz3]

end AttnAHand
-- ==== Proof.AttnAHeads.lean ====
module

public import proofs.«01_k».proof.Proof.AttnABlock
public import Idealize.ShloMosaic.Lib.Pointwise

@[expose] public section

set_option maxRecDepth 16384

noncomputable section

namespace AttnAHand

open Cert.AttnAIdeal Cert.AttnAIdeal.Gen Idealize.ShloMosaic Idealize.ShloMosaic.TcCoe Idealize.SL.Sem

theorem outv_h0 (L : Vec Ideal S1x1024 .f32) (A0 A1 : Vec Ideal S1x64x512 .f32) (q : Fin 128) (d : Fin 64) :
    outv L A0 A1 (ix3 0 q ⟨d.val, by omega⟩)
      = A0 (ix3 0 d ⟨q.val, by omega⟩) * Ideal.div 1 (L (ix2 0 ⟨q.val, by omega⟩)) := by
  have hd := d.isLt
  pointwise [outv, k0_pay1, k0_pay27, k0_pay28]

theorem outv_h1 (L : Vec Ideal S1x1024 .f32) (A0 A1 : Vec Ideal S1x64x512 .f32) (q : Fin 128) (d : Fin 64) :
    outv L A0 A1 (ix3 0 q ⟨64 + d.val, by omega⟩)
      = A0 (ix3 0 d ⟨128 + q.val, by omega⟩) * Ideal.div 1 (L (ix2 0 ⟨128 + q.val, by omega⟩)) := by
  have hd := d.isLt
  pointwise [outv, k0_pay1, k0_pay27, k0_pay29]

theorem outv_h2 (L : Vec Ideal S1x1024 .f32) (A0 A1 : Vec Ideal S1x64x512 .f32) (q : Fin 128) (d : Fin 64) :
    outv L A0 A1 (ix3 0 q ⟨128 + d.val, by omega⟩)
      = A0 (ix3 0 d ⟨256 + q.val, by omega⟩) * Ideal.div 1 (L (ix2 0 ⟨256 + q.val, by omega⟩)) := by
  have hd := d.isLt
  pointwise [outv, k0_pay1, k0_pay27, k0_pay30]
  repeat (first | rw [dif_pos (by omega)] | rw [dif_neg (by omega)])
  congr 3
  exact Fin.ext (by dsimp only; omega)

theorem outv_h3 (L : Vec Ideal S1x1024 .f32) (A0 A1 : Vec Ideal S1x64x512 .f32) (q : Fin 128) (d : Fin 64) :
    outv L A0 A1 (ix3 0 q ⟨192 + d.val, by omega⟩)
      = A0 (ix3 0 d ⟨384 + q.val, by omega⟩) * Ideal.div 1 (L (ix2 0 ⟨384 + q.val, by omega⟩)) := by
  have hd := d.isLt
  pointwise [outv, k0_pay1, k0_pay27, k0_pay31]
  repeat (first | rw [dif_pos (by omega)] | rw [dif_neg (by omega)])
  congr 3
  exact Fin.ext (by dsimp only; omega)

theorem outv_h4 (L : Vec Ideal S1x1024 .f32) (A0 A1 : Vec Ideal S1x64x512 .f32) (q : Fin 128) (d : Fin 64) :
    outv L A0 A1 (ix3 0 q ⟨256 + d.val, by omega⟩)
      = A1 (ix3 0 d ⟨q.val, by omega⟩) * Ideal.div 1 (L (ix2 0 ⟨512 + q.val, by omega⟩)) := by
  have hd := d.isLt
  pointwise [outv, k0_pay1, k0_pay27, k0_pay32]
  repeat (first | rw [dif_pos (by omega)] | rw [dif_neg (by omega)])
  congr 3
  exact Fin.ext (by dsimp only; omega)

theorem outv_h5 (L : Vec Ideal S1x1024 .f32) (A0 A1 : Vec Ideal S1x64x512 .f32) (q : Fin 128) (d : Fin 64) :
    outv L A0 A1 (ix3 0 q ⟨320 + d.val, by omega⟩)
      = A1 (ix3 0 d ⟨128 + q.val, by omega⟩) * Ideal.div 1 (L (ix2 0 ⟨640 + q.val, by omega⟩)) := by
  have hd := d.isLt
  pointwise [outv, k0_pay1, k0_pay27, k0_pay33]
  repeat (first | rw [dif_pos (by omega)] | rw [dif_neg (by omega)])
  congr 3
  exact Fin.ext (by dsimp only; omega)

theorem outv_h6 (L : Vec Ideal S1x1024 .f32) (A0 A1 : Vec Ideal S1x64x512 .f32) (q : Fin 128) (d : Fin 64) :
    outv L A0 A1 (ix3 0 q ⟨384 + d.val, by omega⟩)
      = A1 (ix3 0 d ⟨256 + q.val, by omega⟩) * Ideal.div 1 (L (ix2 0 ⟨768 + q.val, by omega⟩)) := by
  have hd := d.isLt
  pointwise [outv, k0_pay1, k0_pay27, k0_pay34]
  repeat (first | rw [dif_pos (by omega)] | rw [dif_neg (by omega)])
  congr 3
  exact Fin.ext (by dsimp only; omega)

theorem outv_h7 (L : Vec Ideal S1x1024 .f32) (A0 A1 : Vec Ideal S1x64x512 .f32) (q : Fin 128) (d : Fin 64) :
    outv L A0 A1 (ix3 0 q ⟨448 + d.val, by omega⟩)
      = A1 (ix3 0 d ⟨384 + q.val, by omega⟩) * Ideal.div 1 (L (ix2 0 ⟨896 + q.val, by omega⟩)) := by
  have hd := d.isLt
  pointwise [outv, k0_pay1, k0_pay27, k0_pay35, k0_pay36]
  repeat (first | rw [dif_pos (by omega)] | rw [dif_neg (by omega)])
  congr 3
  exact Fin.ext (by dsimp only; omega)

theorem wqv_at (x0 : Vec Ideal S1x512x128 .bf16) (r : Fin 128) (hd : Fin 8) (q : Fin 128) :
    wqv x0 (ix2 r ⟨hd.val * 128 + q.val, by omega⟩)
      = if r.val / 64 = hd.val / 4 then x0 (ix3 0 ⟨hd.val * 64 + r.val % 64, by omega⟩ q) else 0 := by
  unfold wqv
  canon_tiles x h
  all_goals idx_vars x
  all_goals pointwise [k0_pay20, k0_pay10, k0_pay11, k0_pay19, k0_pay18, k0_pay17, k0_pay16, k0_pay15, k0_pay14, k0_pay13, k0_pay12]
  all_goals
    by_cases hr : r.val / 64 = hd.val / 4
    · rw [if_pos hr]
      first | rw [dif_pos (by omega)] | rw [dif_neg (by omega)]
      congr 2
      all_goals exact Fin.ext (by first | omega | (dsimp only; omega))
    · rw [if_neg hr]
      first | rw [dif_pos (by omega)] | rw [dif_neg (by omega)]

end AttnAHand
-- ==== Proof.OnlineSoftmax.lean ====
module

public import Idealize.ShloMosaic.Lib.Pointwise

/-!
# A softmax average taken in tiles

`den s m N` and `num s v m N` are the denominator and the numerator of a softmax average over the first `N` scores, both
scaled by `exp (-m)`. A tile's step moves the scale from one number to another; the quotient does not depend on the scale,
so it is the same as that of the average taken at once.
-/

@[expose] public section

noncomputable section

namespace OnlineSoftmax

open Idealize.ShloMosaic Finset

/-- The denominator over the first `N` scores, scaled by `exp (-m)`. -/
def den (s : ℕ → ℝ) (m : ℝ) (N : ℕ) : ℝ := ∑ n ∈ range N, Real.exp (s n - m)

/-- The numerator over the first `N` scores, scaled by `exp (-m)`. -/
def num (s : ℕ → ℝ) (v : ℕ → EReal) (m : ℝ) (N : ℕ) : EReal := ∑ n ∈ range N, v n * ((Real.exp (s n - m) : ℝ) : EReal)

theorem coe_sum_fin {n : ℕ} (f : Fin n → ℝ) : ((∑ i, f i : ℝ) : EReal) = ∑ i, (f i : EReal) := by
  classical
  induction (univ : Finset (Fin n)) using Finset.induction_on with
  | empty => simp
  | insert a s ha ih => rw [sum_insert ha, sum_insert ha, EReal.coe_add, ih]

/-- Multiplying by a real number that is not negative goes through a sum. -/
theorem sum_mul_coe {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a s ha ih =>
    rw [sum_insert ha, sum_insert ha,
      EReal.right_distrib_of_nonneg_of_ne_top (EReal.coe_nonneg.2 hr) (EReal.coe_ne_top r), ih]

theorem exp_sub (a b : ℝ) : Ideal.exp ((a : EReal) - (b : EReal)) = ((Real.exp (a - b) : ℝ) : EReal) := by
  rw [← EReal.coe_sub, Ideal.exp_coe]

theorem den_pos (s : ℕ → ℝ) (m : ℝ) {N : ℕ} (h : 0 < N) : 0 < den s m N :=
  sum_pos (fun _ _ => Real.exp_pos _) ⟨0, mem_range.2 h⟩

/-- A denominator at another scale. -/
theorem den_scale (s : ℕ → ℝ) (m m' : ℝ) (N : ℕ) : Real.exp (m - m') * den s m N = den s m' N := by
  unfold den
  rw [mul_sum]
  refine sum_congr rfl fun n _ => ?_
  rw [← Real.exp_add]
  congr 1
  ring

/-- A numerator at another scale. -/
theorem num_scale (s : ℕ → ℝ) (v : ℕ → EReal) (m m' : ℝ) (N : ℕ) :
    num s v m N * ((Real.exp (m - m') : ℝ) : EReal) = num s v m' N := by
  unfold num
  rw [sum_mul_coe _ _ (Real.exp_pos _).le]
  refine sum_congr rfl fun n _ => ?_
  rw [mul_assoc, ← EReal.coe_mul, ← Real.exp_add]
  congr 3
  ring

/-- The maximum of a real number and finitely many real numbers is a real number. -/
theorem max_real {n : ℕ} {M : EReal} {m : ℝ} (hM : M = m) (f : Fin n → EReal) (g : Fin n → ℝ) (hf : ∀ j, f j = g j) :
    ∃ m' : ℝ, max M (univ.fold max ⊥ f) = m' := by
  have h1 : univ.fold max ⊥ f < ⊤ :=
    (Finset.fold_max_lt _).2 ⟨bot_lt_top, fun j _ => by rw [hf]; exact EReal.coe_lt_top _⟩
  have h2 : max M (univ.fold max ⊥ f) ≠ ⊤ := (max_lt (by rw [hM]; exact EReal.coe_lt_top _) h1).ne
  have h3 : max M (univ.fold max ⊥ f) ≠ ⊥ := by
    refine (lt_of_lt_of_le ?_ (le_max_left _ _)).ne'
    rw [hM]; exact EReal.bot_lt_coe _
  exact ⟨_, (EReal.coe_toReal h2 h3).symm⟩

/-- The maximum of finitely many real numbers, at least one, is a real number. -/
theorem fold_real {n : ℕ} (f : Fin (n + 1) → EReal) (g : Fin (n + 1) → ℝ) (hf : ∀ j, f j = g j) :
    ∃ m' : ℝ, univ.fold max ⊥ f = m' := by
  have h1 : univ.fold max ⊥ f < ⊤ :=
    (Finset.fold_max_lt _).2 ⟨bot_lt_top, fun j _ => by rw [hf]; exact EReal.coe_lt_top _⟩
  have h2 : f 0 ≤ univ.fold max ⊥ f := (Finset.le_fold_max _).2 (Or.inr ⟨0, mem_univ _, le_refl _⟩)
  have h3 : univ.fold max ⊥ f ≠ ⊥ := by
    refine (lt_of_lt_of_le ?_ h2).ne'
    rw [hf]; exact EReal.bot_lt_coe _
  exact ⟨_, (EReal.coe_toReal h1.ne h3).symm⟩

/-- A tile's step of the denominator. -/
theorem den_step (s : ℕ → ℝ) (m m' : ℝ) (N B : ℕ) (f : Fin B → EReal) (hf : ∀ j, f j = ((s (N + j) : ℝ) : EReal)) :
    Ideal.exp ((m : EReal) - (m' : EReal)) * ((den s m N : ℝ) : EReal) + ∑ j, Ideal.exp (f j - (m' : EReal))
      = ((den s m' (N + B) : ℝ) : EReal) := by
  have h : den s m' (N + B) = den s m' N + ∑ j : Fin B, Real.exp (s (N + j) - m') := by
    unfold den
    rw [sum_range_add, Fin.sum_univ_eq_sum_range (fun j => Real.exp (s (N + j) - m'))]
  rw [h, EReal.coe_add, exp_sub, ← EReal.coe_mul, den_scale, coe_sum_fin]
  congr 1
  refine sum_congr rfl fun j _ => ?_
  rw [hf, exp_sub]

/-- A tile's step of the numerator, the tile's sum taken in two halves. -/
theorem num_step (s : ℕ → ℝ) (v : ℕ → EReal) (m m' : ℝ) (N B : ℕ) (f0 f1 v0 v1 : Fin B → EReal)
    (hf0 : ∀ j, f0 j = ((s (N + j) : ℝ) : EReal)) (hf1 : ∀ j, f1 j = ((s (N + B + j) : ℝ) : EReal))
    (hv0 : ∀ j, v0 j = v (N + j)) (hv1 : ∀ j, v1 j = v (N + B + j)) :
    num s v m N * Ideal.exp ((m : EReal) - (m' : EReal))
        + (∑ j, v0 j * Ideal.exp (f0 j - (m' : EReal)) + ∑ j, v1 j * Ideal.exp (f1 j - (m' : EReal)))
      = num s v m' (N + B + B) := by
  have h : ∀ K, num s v m' (K + B) = num s v m' K + ∑ j : Fin B, v (K + j) * ((Real.exp (s (K + j) - m') : ℝ) : EReal) := by
    intro K
    unfold num
    rw [sum_range_add, Fin.sum_univ_eq_sum_range (fun j => v (K + j) * ((Real.exp (s (K + j) - m') : ℝ) : EReal))]
  rw [h, h, exp_sub, num_scale, add_assoc]
  congr 2
  · refine sum_congr rfl fun j _ => ?_
    rw [hf0, hv0, exp_sub]
  · refine sum_congr rfl fun j _ => ?_
    rw [hf1, hv1, exp_sub]

/-- The quotient at the loop's end, one weight at a time. -/
theorem quotient (s : ℕ → ℝ) (v : ℕ → EReal) (m : ℝ) {N : ℕ} (h : 0 < N) :
    num s v m N * Ideal.div 1 ((den s m N : ℝ) : EReal)
      = ∑ n ∈ range N, v n * ((Real.exp (s n - m) / den s m N : ℝ) : EReal) := by
  have hp := den_pos s m h
  rw [Ideal.div_coe hp.ne', one_mul, num, sum_mul_coe _ _ (by positivity)]
  refine sum_congr rfl fun n _ => ?_
  rw [mul_assoc, ← EReal.coe_mul, mul_one_div]

/-- A weight does not depend on the scale. -/
theorem weight_scale (s : ℕ → ℝ) (m m' : ℝ) (N n : ℕ) :
    Real.exp (s n - m) / den s m N = Real.exp (s n - m') / den s m' N := by
  rw [← den_scale s m m' N]
  have h : Real.exp (s n - m') = Real.exp (m - m') * Real.exp (s n - m) := by
    rw [← Real.exp_add]; congr 1; ring
  rw [h, mul_div_mul_left _ _ (Real.exp_ne_zero _)]

/-- The average taken at once, in the extended reals. -/
theorem plain (s : ℕ → ℝ) (v : ℕ → EReal) (m m' : ℝ) {N : ℕ} (h : 0 < N) (f w : Fin N → EReal)
    (hf : ∀ j, f j = ((s j : ℝ) : EReal)) (hw : ∀ j, w j = v j) :
    ∑ j, w j * Ideal.div (Ideal.exp (f j - (m' : EReal))) (∑ k, Ideal.exp (f k - (m' : EReal)))
      = num s v m N * Ideal.div 1 ((den s m N : ℝ) : EReal) := by
  have hd : ∑ k, Ideal.exp (f k - (m' : EReal)) = ((den s m' N : ℝ) : EReal) := by
    unfold den
    rw [← Fin.sum_univ_eq_sum_range (fun n => Real.exp (s n - m')), coe_sum_fin]
    refine sum_congr rfl fun j _ => ?_
    rw [hf, exp_sub]
  rw [quotient s v m h, ← Fin.sum_univ_eq_sum_range (fun n => v n * ((Real.exp (s n - m) / den s m N : ℝ) : EReal)), hd]
  refine sum_congr rfl fun j _ => ?_
  rw [hf, hw, exp_sub, Ideal.div_coe (den_pos s m' h).ne', ← EReal.coe_mul, mul_one_div, weight_scale s m m' N]

end OnlineSoftmax
-- ==== Proof.AttnAColumn.lean ====
module

public import proofs.«01_k».proof.Proof.AttnAHeads
public import proofs.«01_k».proof.Proof.OnlineSoftmax

@[expose] public section

set_option maxRecDepth 16384

noncomputable section

namespace AttnAHand

open Cert.AttnAIdeal Cert.AttnAIdeal.Gen Idealize.ShloMosaic Idealize.ShloMosaic.TcCoe Idealize.SL.Sem

theorem trips_eq : k0_t1_loop.trips = 32 := by decide

theorem off1_eq : ∀ k : Fin k0_t1_loop.trips, k0_off1 k = ![0, 256 * k.val, 0] := by decide +kernel
theorem off20_eq : ∀ k : Fin k0_t1_loop.trips, k0_off2 k 0#32 = ![0, 2 * k.val, 0, 0] := by decide +kernel
theorem off21_eq : ∀ k : Fin k0_t1_loop.trips, k0_off2 k 1#32 = ![0, 2 * k.val + 1, 0, 0] := by decide +kernel

theorem trip_lt (k : Fin k0_t1_loop.trips) : k.val < 32 := lt_of_lt_of_eq k.isLt trips_eq

theorem ktile_at (x1 : Vec Ideal S1x8192x128 .bf16) (k : Fin k0_t1_loop.trips) (a : Fin 256) (r : Fin 128) :
    ktile x1 k (ix3 0 a r) = x1 (ix3 0 ⟨256 * k.val + a.val, by have := trip_lt k; omega⟩ r) := by
  unfold ktile View.ld
  refine congrArg x1 (funext fun i => Fin.ext ?_)
  have h := congrFun (off1_eq k) i
  fin_cases i <;> simpa [Rect.emb, Rect.unit, ix3] using h

theorem vtile0_at (x2 : Vec Ideal S1x64x128x128 .bf16) (k : Fin k0_t1_loop.trips) (d x : Fin 128) :
    vtile0 x2 k (ix4 0 0 d x) = x2 (ix4 0 ⟨2 * k.val, by have := trip_lt k; omega⟩ d x) := by
  unfold vtile0 View.ld
  refine congrArg x2 (funext fun i => Fin.ext ?_)
  have h := congrFun (off20_eq k) i
  fin_cases i <;> simpa [Rect.emb, Rect.unit, ix4] using h

theorem vtile1_at (x2 : Vec Ideal S1x64x128x128 .bf16) (k : Fin k0_t1_loop.trips) (d x : Fin 128) :
    vtile1 x2 k (ix4 0 0 d x) = x2 (ix4 0 ⟨2 * k.val + 1, by have := trip_lt k; omega⟩ d x) := by
  unfold vtile1 View.ld
  refine congrArg x2 (funext fun i => Fin.ext ?_)
  have h := congrFun (off21_eq k) i
  fin_cases i <;> simpa [Rect.emb, Rect.unit, ix4] using h

theorem acc_ld1 (A : Vec Ideal S2x64x512 .f32) (d : Fin 64) (b : Fin 512) : View.ld A accRect1 (ix3 0 d b) = A (ix3 1 d b) := by
  unfold View.ld
  refine congrArg A (funext fun i => Fin.ext ?_)
  fin_cases i <;> simp [Rect.emb, Rect.unit, ix3]

theorem acc_ld0 (A : Vec Ideal S2x64x512 .f32) (d : Fin 64) (b : Fin 512) : View.ld A accRect0 (ix3 0 d b) = A (ix3 0 d b) := by
  unfold View.ld
  refine congrArg A (funext fun i => Fin.ext ?_)
  fin_cases i <;> simp [Rect.emb, Rect.unit, ix3]

/-- A sum over 128 rows with only one half's rows counted. -/
theorem sum_half (g : Fin 128 → EReal) (h : ℕ → EReal) (c : ℕ) (hc : c < 2) :
    ∑ r : Fin 128, g r * (if r.val / 64 = c then h (r.val % 64) else 0)
      = ∑ e : Fin 64, g ⟨c * 64 + e.val, by omega⟩ * h e.val := by
  rw [show (∑ r : Fin 128, g r * (if r.val / 64 = c then h (r.val % 64) else 0)) = _ from Fin.sum_univ_add (a := 64) (b := 64) _]
  have e0 : ∀ e : Fin 64, (Fin.castAdd 64 e).val / 64 = 0 := fun e => Nat.div_eq_of_lt e.isLt
  have e1 : ∀ e : Fin 64, (Fin.natAdd 64 e).val / 64 = 1 := fun e => by
    have := e.isLt; show (64 + e.val) / 64 = 1; omega
  have m0 : ∀ e : Fin 64, (Fin.castAdd 64 e).val % 64 = e.val := fun e => Nat.mod_eq_of_lt e.isLt
  have m1 : ∀ e : Fin 64, (Fin.natAdd 64 e).val % 64 = e.val := fun e => by
    have := e.isLt; show (64 + e.val) % 64 = _; omega
  simp only [e0, e1, m0, m1]
  have : c = 0 ∨ c = 1 := by omega
  rcases this with rfl | rfl
  · simp only [if_true, Nat.one_ne_zero, if_false, mul_zero, Finset.sum_const_zero, add_zero]
    exact Finset.sum_congr rfl fun e _ => congrArg₂ _ (congrArg g (Fin.ext (by simp))) rfl
  · simp only [if_true, Nat.zero_ne_one, if_false, mul_zero, Finset.sum_const_zero, zero_add]
    exact Finset.sum_congr rfl fun e _ => congrArg₂ _ (congrArg g (Fin.ext (by show 64 + e.val = 1 * 64 + e.val; omega))) rfl

theorem first_real : ∃ m : ℝ, Ideal.ofBits .f32 0xF149F2CA#32 = (m : EReal) := by
  refine ⟨-(13234890 * 2 ^ 76), ?_⟩
  simp [Ideal.ofBits, Ideal.ieee]

theorem neg_inf : Ideal.ofBits .f32 0xFF800000#32 = ⊥ := by
  simp [Ideal.ofBits, Ideal.ieee]

/-- The score of query column `q` of head `hd` against key row `n`. -/
def score (x0 : Vec Ideal S1x512x128 .bf16) (x1 : Vec Ideal S1x8192x128 .bf16) (hd : Fin 8) (q : Fin 128) (n : Fin 8192) : EReal :=
  ∑ e : Fin 64, x1 (ix3 0 n ⟨hd.val / 4 * 64 + e.val, by omega⟩) * x0 (ix3 0 ⟨hd.val * 64 + e.val, by omega⟩ q)

theorem pay2_at (x0 : Vec Ideal S1x512x128 .bf16) (x1 : Vec Ideal S1x8192x128 .bf16) (k : Fin k0_t1_loop.trips) (a : Fin 256) (hd : Fin 8) (q : Fin 128) :
    k0_pay2 (ktile x1 k) (wqv x0) (ix2 a ⟨hd.val * 128 + q.val, by omega⟩)
      = score x0 x1 hd q ⟨256 * k.val + a.val, by have := trip_lt k; omega⟩ := by
  have h : k0_pay2 (ktile x1 k) (wqv x0) (ix2 a ⟨hd.val * 128 + q.val, by omega⟩)
      = ∑ r : Fin 128, ktile x1 k (ix3 0 a r) * wqv x0 (ix2 r ⟨hd.val * 128 + q.val, by omega⟩) := by
    pointwise [k0_pay2]
  rw [h]
  simp only [wqv_at, ktile_at]
  unfold score
  have e := sum_half (fun r => x1 (ix3 0 ⟨256 * k.val + a.val, by have := trip_lt k; omega⟩ r))
    (fun e => if h : hd.val * 64 + e < 512 then x0 (ix3 0 ⟨hd.val * 64 + e, h⟩ q) else 0) (hd.val / 4) (by omega)
  refine Eq.trans (Finset.sum_congr rfl fun r _ => ?_) (e.trans (Finset.sum_congr rfl fun e _ => ?_))
  · rw [dif_pos (by omega)]
  · rw [dif_pos (by omega)]

theorem nextM_at (x1 : Vec Ideal S1x8192x128 .bf16) (wq : Vec Ideal S128x1024 .bf16) (k : Fin k0_t1_loop.trips) (M : Vec Ideal S1x1024 .f32) (b : Fin 1024) :
    nextM x1 wq k M (ix2 0 b) = max (M (ix2 0 b)) (Finset.univ.fold max ⊥ fun a => k0_pay2 (ktile x1 k) wq (ix2 a b)) := by
  unfold nextM
  rw [← neg_inf]
  pointwise [k0_pay7, k0_pay3]

theorem pay3_at (x1 : Vec Ideal S1x8192x128 .bf16) (wq : Vec Ideal S128x1024 .bf16) (k : Fin k0_t1_loop.trips) (M : Vec Ideal S1x1024 .f32) (b : Fin 1024) :
    k0_pay3 (ktile x1 k) wq M (ix2 0 b) = nextM x1 wq k M (ix2 0 b) := by
  unfold nextM
  pointwise [k0_pay7]

theorem nextL_at (x1 : Vec Ideal S1x8192x128 .bf16) (wq : Vec Ideal S128x1024 .bf16) (k : Fin k0_t1_loop.trips) (M L : Vec Ideal S1x1024 .f32) (b : Fin 1024) :
    nextL x1 wq k M L (ix2 0 b) = Ideal.exp (M (ix2 0 b) - nextM x1 wq k M (ix2 0 b)) * L (ix2 0 b)
      + ∑ a, Ideal.exp (k0_pay2 (ktile x1 k) wq (ix2 a b) - nextM x1 wq k M (ix2 0 b)) := by
  unfold nextL
  rw [← pay3_at]
  pointwise [k0_pay6, k0_pay5, k0_pay4]

theorem pay25_at (al : Vec Ideal S1x1024 .f32) (p : FVec Ideal S256x1024 .bf16) (v0 v1 : Vec Ideal S1x1x128x128 .bf16)
    (A : Vec Ideal S1x64x512 .f32) (d : Fin 64) (b : Fin 512) :
    k0_pay25 al p (k0_pay9 v0) v1 A (ix3 0 d b) =
      A (ix3 0 d b) * al (ix2 0 ⟨(0 : Fin 2).val * 512 + b.val, by show 0 * 512 + b.val < 1024; omega⟩)
      + (∑ x : Fin 128, v0 (ix4 0 0 ⟨(0 : Fin 2).val * 64 + d.val, by show 0 * 64 + d.val < 128; omega⟩ x)
            * p (ix2 ⟨x.val, by omega⟩ ⟨(0 : Fin 2).val * 512 + b.val, by show 0 * 512 + b.val < 1024; omega⟩)
        + ∑ x : Fin 128, v1 (ix4 0 0 ⟨(0 : Fin 2).val * 64 + d.val, by show 0 * 64 + d.val < 128; omega⟩ x)
            * p (ix2 ⟨128 + x.val, by omega⟩ ⟨(0 : Fin 2).val * 512 + b.val, by show 0 * 512 + b.val < 1024; omega⟩)) := by
  pointwise [k0_pay25, k0_pay9, k0_pay24]

theorem pay26_at (al : Vec Ideal S1x1024 .f32) (p : FVec Ideal S256x1024 .bf16) (v0 v1 : Vec Ideal S1x1x128x128 .bf16)
    (A : Vec Ideal S1x64x512 .f32) (d : Fin 64) (b : Fin 512) :
    k0_pay26 al p (k0_pay9 v0) v1 A (ix3 0 d b) =
      A (ix3 0 d b) * al (ix2 0 ⟨(1 : Fin 2).val * 512 + b.val, by show 1 * 512 + b.val < 1024; omega⟩)
      + (∑ x : Fin 128, v0 (ix4 0 0 ⟨(1 : Fin 2).val * 64 + d.val, by show 1 * 64 + d.val < 128; omega⟩ x)
            * p (ix2 ⟨x.val, by omega⟩ ⟨(1 : Fin 2).val * 512 + b.val, by show 1 * 512 + b.val < 1024; omega⟩)
        + ∑ x : Fin 128, v1 (ix4 0 0 ⟨(1 : Fin 2).val * 64 + d.val, by show 1 * 64 + d.val < 128; omega⟩ x)
            * p (ix2 ⟨128 + x.val, by omega⟩ ⟨(1 : Fin 2).val * 512 + b.val, by show 1 * 512 + b.val < 1024; omega⟩)) := by
  pointwise [k0_pay26, k0_pay9, k0_pay24]

theorem pay4_at (x1 : Vec Ideal S1x8192x128 .bf16) (wq : Vec Ideal S128x1024 .bf16) (k : Fin k0_t1_loop.trips) (M : Vec Ideal S1x1024 .f32) (b : Fin 1024) :
    k0_pay4 (ktile x1 k) wq M (ix2 0 b) = Ideal.exp (M (ix2 0 b) - nextM x1 wq k M (ix2 0 b)) := by
  rw [← pay3_at]
  pointwise [k0_pay4]

theorem pay8_at (x1 : Vec Ideal S1x8192x128 .bf16) (wq : Vec Ideal S128x1024 .bf16) (k : Fin k0_t1_loop.trips) (M : Vec Ideal S1x1024 .f32) (a : Fin 256) (b : Fin 1024) :
    k0_pay8 (ktile x1 k) wq M (ix2 a b) = Ideal.exp (k0_pay2 (ktile x1 k) wq (ix2 a b) - nextM x1 wq k M (ix2 0 b)) := by
  rw [← pay3_at]
  pointwise [k0_pay8, k0_pay5]

theorem nextA_at (x1 : Vec Ideal S1x8192x128 .bf16) (x2 : Vec Ideal S1x64x128x128 .bf16) (wq : Vec Ideal S128x1024 .bf16)
    (k : Fin k0_t1_loop.trips) (M : Vec Ideal S1x1024 .f32) (A : Vec Ideal S2x64x512 .f32) (g : Fin 2) (d : Fin 64) (b : Fin 512) :
    nextA x1 x2 wq k M A (ix3 g d b) =
      A (ix3 g d b) * Ideal.exp (M (ix2 0 ⟨g.val * 512 + b.val, by omega⟩) - nextM x1 wq k M (ix2 0 ⟨g.val * 512 + b.val, by omega⟩))
      + (∑ x : Fin 128, x2 (ix4 0 ⟨2 * k.val, by have := trip_lt k; omega⟩ ⟨g.val * 64 + d.val, by omega⟩ x)
            * Ideal.exp (k0_pay2 (ktile x1 k) wq (ix2 ⟨x.val, by omega⟩ ⟨g.val * 512 + b.val, by omega⟩) - nextM x1 wq k M (ix2 0 ⟨g.val * 512 + b.val, by omega⟩))
        + ∑ x : Fin 128, x2 (ix4 0 ⟨2 * k.val + 1, by have := trip_lt k; omega⟩ ⟨g.val * 64 + d.val, by omega⟩ x)
            * Ideal.exp (k0_pay2 (ktile x1 k) wq (ix2 ⟨128 + x.val, by omega⟩ ⟨g.val * 512 + b.val, by omega⟩) - nextM x1 wq k M (ix2 0 ⟨g.val * 512 + b.val, by omega⟩))) := by
  unfold nextA
  canon_tiles y h
  all_goals idx_vars y
  · obtain rfl : g = 1 := Fin.ext (by show g.val = 1; omega)
    obtain rfl : d = y1 := Fin.ext (by omega)
    obtain rfl : b = y2 := Fin.ext (by omega)
    obtain rfl : y0 = 0 := Fin.ext (by omega)
    simp only [pay26_at, pay4_at, pay8_at, vtile0_at, vtile1_at]
    exact congrArg (· * _ + _) (acc_ld1 A d b)
  · obtain rfl : g = 0 := Fin.ext (by show g.val = 0; omega)
    obtain rfl : d = y1 := Fin.ext (by omega)
    obtain rfl : b = y2 := Fin.ext (by omega)
    obtain rfl : y0 = 0 := Fin.ext (by omega)
    simp only [pay25_at, pay4_at, pay8_at, vtile0_at, vtile1_at]
    exact congrArg (· * _ + _) (acc_ld0 A d b)

/-- The score of key row `n` as a real number. -/
def sR (x0 : Vec Ideal S1x512x128 .bf16) (x1 : Vec Ideal S1x8192x128 .bf16) (hd : Fin 8) (q : Fin 128) (n : ℕ) : ℝ :=
  if h : n < 8192 then (score x0 x1 hd q ⟨n, h⟩).toReal else 0

/-- Feature `d` of the value at key row `n`, for the group of head `hd`. -/
def vE (x2 : Vec Ideal S1x64x128x128 .bf16) (hd : Fin 8) (d : Fin 64) (n : ℕ) : EReal :=
  if h : n < 8192 then x2 (ix4 0 ⟨n / 128, by omega⟩ ⟨hd.val / 4 * 64 + d.val, by omega⟩ ⟨n % 128, by omega⟩) else 0

/-- The carried values before the loop. -/
def st0 : St Ideal := ⟨k0_pay21 (F := Ideal), k0_pay22 (F := Ideal), k0_pay23 (F := Ideal)⟩

theorem carried (x0 : Vec Ideal S1x512x128 .bf16) (x1 : Vec Ideal S1x8192x128 .bf16) (x2 : Vec Ideal S1x64x128x128 .bf16)
    (hd : Fin 8) (q : Fin 128) (hs : ∀ n, score x0 x1 hd q n ≠ ⊤ ∧ score x0 x1 hd q n ≠ ⊥) (k : ℕ) (hk : k ≤ k0_t1_loop.trips) :
    ∃ m : ℝ, (stAt x1 x2 (wqv x0) st0 k).M (ix2 0 ⟨hd.val * 128 + q.val, by omega⟩) = (m : EReal)
      ∧ (stAt x1 x2 (wqv x0) st0 k).L (ix2 0 ⟨hd.val * 128 + q.val, by omega⟩)
          = ((OnlineSoftmax.den (sR x0 x1 hd q) m (256 * k) : ℝ) : EReal)
      ∧ ∀ d : Fin 64, (stAt x1 x2 (wqv x0) st0 k).A
            (ix3 ⟨hd.val / 4, by omega⟩ d ⟨hd.val % 4 * 128 + q.val, by omega⟩)
          = OnlineSoftmax.num (sR x0 x1 hd q) (vE x2 hd d) m (256 * k) := by
  have hsc : ∀ n, score x0 x1 hd q n = ((sR x0 x1 hd q n.val : ℝ) : EReal) := fun n => by
    rw [sR, dif_pos n.isLt, EReal.coe_toReal (hs n).1 (hs n).2]
  induction k with
  | zero =>
    obtain ⟨m, hm⟩ := first_real
    refine ⟨m, ?_, ?_, fun d => ?_⟩
    · rw [← hm]
      show k0_pay21 (F := Ideal) (ix2 0 (⟨hd.val * 128 + q.val, by omega⟩ : Fin 1024)) = _
      pointwise [k0_pay21]
    · show k0_pay22 (F := Ideal) (ix2 0 (⟨hd.val * 128 + q.val, by omega⟩ : Fin 1024)) = _
      simp only [OnlineSoftmax.den, Nat.mul_zero, Finset.range_zero, Finset.sum_empty, EReal.coe_zero]
      pointwise [k0_pay22]
    · show k0_pay23 (F := Ideal) (ix3 (⟨hd.val / 4, by omega⟩ : Fin 2) d (⟨hd.val % 4 * 128 + q.val, by omega⟩ : Fin 512)) = _
      simp only [OnlineSoftmax.num, Nat.mul_zero, Finset.range_zero, Finset.sum_empty]
      pointwise [k0_pay23]
  | succ k ih =>
    obtain ⟨m, hM, hL, hA⟩ := ih (Nat.le_of_succ_le hk)
    rw [stAt_succ _ _ _ _ k hk]
    generalize stAt x1 x2 (wqv x0) st0 k = st at hM hL hA ⊢
    obtain ⟨M, L, A⟩ := st
    rw [next_M, next_L]
    simp only [next_A]
    dsimp only at hM hL hA
    have k32 : k < 32 := lt_of_lt_of_eq hk trips_eq
    have hp : ∀ a : Fin 256, k0_pay2 (ktile x1 ⟨k, hk⟩) (wqv x0) (ix2 a ⟨hd.val * 128 + q.val, by omega⟩)
        = ((sR x0 x1 hd q (256 * k + a.val) : ℝ) : EReal) := fun a => by rw [pay2_at, hsc]
    obtain ⟨m', hm'⟩ := OnlineSoftmax.max_real hM _ _ hp
    have hM' := (nextM_at x1 (wqv x0) ⟨k, hk⟩ M ⟨hd.val * 128 + q.val, by omega⟩).trans hm'
    refine ⟨m', hM', ?_, fun d => ?_⟩
    · rw [nextL_at, hM', hM, hL, OnlineSoftmax.den_step _ _ _ _ _ _ hp]
      rfl
    · have hc : (⟨(⟨hd.val / 4, by omega⟩ : Fin 2).val * 512 + (⟨hd.val % 4 * 128 + q.val, by omega⟩ : Fin 512).val, by
          show hd.val / 4 * 512 + (hd.val % 4 * 128 + q.val) < 1024; omega⟩ : Fin 1024) = ⟨hd.val * 128 + q.val, by omega⟩ :=
        Fin.ext (by show hd.val / 4 * 512 + (hd.val % 4 * 128 + q.val) = hd.val * 128 + q.val; omega)
      rw [nextA_at, hc, hM', hM, hA]
      rw [show 256 * (k + 1) = 256 * k + 128 + 128 by ring]
      refine OnlineSoftmax.num_step (sR x0 x1 hd q) (vE x2 hd d) m m' (256 * k) 128 _ _ _ _
        (fun j => (hp ⟨j.val, by omega⟩)) (fun j => (hp ⟨128 + j.val, by omega⟩).trans ?_) (fun j => ?_) (fun j => ?_)
      · rw [show 256 * k + 128 + j.val = 256 * k + (128 + j.val) by ring]
      · have := j.isLt
        rw [vE, dif_pos (by omega)]
        exact congrArg x2 (congr (congr (congrArg (ix4 0) (Fin.ext (by show 2 * k = (256 * k + j.val) / 128; omega))) rfl)
          (Fin.ext (by show j.val = (256 * k + j.val) % 128; omega)))
      · have := j.isLt
        rw [vE, dif_pos (by omega)]
        exact congrArg x2 (congr (congr (congrArg (ix4 0) (Fin.ext (by show 2 * k + 1 = (256 * k + 128 + j.val) / 128; omega))) rfl)
          (Fin.ext (by show j.val = (256 * k + 128 + j.val) % 128; omega)))

end AttnAHand
-- ==== Proof.AttnAOut.lean ====
module

public import proofs.«01_k».proof.Proof.AttnAColumn

/-! One entry of the attention kernel's output block, after all key tiles. -/

@[expose] public section

set_option maxRecDepth 16384

noncomputable section

namespace AttnAHand

open Cert.AttnAIdeal Cert.AttnAIdeal.Gen Idealize.ShloMosaic Idealize.ShloMosaic.TcCoe Idealize.SL.Sem

theorem val_congr {n : ℕ} {α : Type} (f : Fin n → α) {a b : Fin n} (h : a.val = b.val) : f a = f b := congrArg f (Fin.ext h)

theorem slab_congr (A : Vec Ideal S2x64x512 .f32) (d : Fin 64) {a a' : Fin 2} {j j' : Fin 512} (ha : a.val = a'.val) (hj : j.val = j'.val) :
    A (ix3 a d j) = A (ix3 a' d j') := by
  rw [Fin.ext ha, Fin.ext hj]

/-- The output block at feature `d` of head `hd`: one entry of the numerator over one of the denominator. -/
theorem outv_at (L : Vec Ideal S1x1024 .f32) (A : Vec Ideal S2x64x512 .f32) (hd : Fin 8) (q : Fin 128) (d : Fin 64) :
    outv L (View.ld A accRect0) (View.ld A accRect1) (ix3 0 q ⟨hd.val * 64 + d.val, by omega⟩)
      = A (ix3 ⟨hd.val / 4, by omega⟩ d ⟨hd.val % 4 * 128 + q.val, by omega⟩)
        * Ideal.div 1 (L (ix2 0 ⟨hd.val * 128 + q.val, by omega⟩)) := by
  obtain ⟨h, hh⟩ := hd
  interval_cases h
  · exact (val_congr (fun j => outv L (View.ld A accRect0) (View.ld A accRect1) (ix3 0 q j)) (by dsimp only <;> omega)).trans
      ((outv_h0 L _ _ q d).trans (congrArg₂ (· * ·) ((acc_ld0 A d _).trans (slab_congr A d (by simp) (by simp)))
        (val_congr (fun j => Ideal.div 1 (L (ix2 0 j))) (by dsimp only <;> omega))))
  · exact (val_congr (fun j => outv L (View.ld A accRect0) (View.ld A accRect1) (ix3 0 q j)) (by dsimp only <;> omega)).trans
      ((outv_h1 L _ _ q d).trans (congrArg₂ (· * ·) ((acc_ld0 A d _).trans (slab_congr A d (by simp) (by simp)))
        (val_congr (fun j => Ideal.div 1 (L (ix2 0 j))) (by dsimp only <;> omega))))
  · exact (val_congr (fun j => outv L (View.ld A accRect0) (View.ld A accRect1) (ix3 0 q j)) (by dsimp only <;> omega)).trans
      ((outv_h2 L _ _ q d).trans (congrArg₂ (· * ·) ((acc_ld0 A d _).trans (slab_congr A d (by simp) (by simp)))
        (val_congr (fun j => Ideal.div 1 (L (ix2 0 j))) (by dsimp only <;> omega))))
  · exact (val_congr (fun j => outv L (View.ld A accRect0) (View.ld A accRect1) (ix3 0 q j)) (by dsimp only <;> omega)).trans
      ((outv_h3 L _ _ q d).trans (congrArg₂ (· * ·) ((acc_ld0 A d _).trans (slab_congr A d (by simp) (by simp)))
        (val_congr (fun j => Ideal.div 1 (L (ix2 0 j))) (by dsimp only <;> omega))))
  · exact (val_congr (fun j => outv L (View.ld A accRect0) (View.ld A accRect1) (ix3 0 q j)) (by dsimp only <;> omega)).trans
      ((outv_h4 L _ _ q d).trans (congrArg₂ (· * ·) ((acc_ld1 A d _).trans (slab_congr A d (by simp) (by simp)))
        (val_congr (fun j => Ideal.div 1 (L (ix2 0 j))) (by dsimp only <;> omega))))
  · exact (val_congr (fun j => outv L (View.ld A accRect0) (View.ld A accRect1) (ix3 0 q j)) (by dsimp only <;> omega)).trans
      ((outv_h5 L _ _ q d).trans (congrArg₂ (· * ·) ((acc_ld1 A d _).trans (slab_congr A d (by simp) (by simp)))
        (val_congr (fun j => Ideal.div 1 (L (ix2 0 j))) (by dsimp only <;> omega))))
  · exact (val_congr (fun j => outv L (View.ld A accRect0) (View.ld A accRect1) (ix3 0 q j)) (by dsimp only <;> omega)).trans
      ((outv_h6 L _ _ q d).trans (congrArg₂ (· * ·) ((acc_ld1 A d _).trans (slab_congr A d (by simp) (by simp)))
        (val_congr (fun j => Ideal.div 1 (L (ix2 0 j))) (by dsimp only <;> omega))))
  · exact (val_congr (fun j => outv L (View.ld A accRect0) (View.ld A accRect1) (ix3 0 q j)) (by dsimp only <;> omega)).trans
      ((outv_h7 L _ _ q d).trans (congrArg₂ (· * ·) ((acc_ld1 A d _).trans (slab_congr A d (by simp) (by simp)))
        (val_congr (fun j => Ideal.div 1 (L (ix2 0 j))) (by dsimp only <;> omega))))

theorem fin_eq (x0 : Vec Ideal S1x512x128 .bf16) (x1 : Vec Ideal S1x8192x128 .bf16) (x2 : Vec Ideal S1x64x128x128 .bf16) :
    fin x0 x1 x2 = stAt x1 x2 (wqv x0) st0 k0_t1_loop.trips := by
  unfold fin st0
  rfl

/-- With finite scores, the output block at feature `d` of head `hd` is the weighted sum of the values over the sum of the
    weights, at some real offset of the scores. -/
theorem outv_fin (x0 : Vec Ideal S1x512x128 .bf16) (x1 : Vec Ideal S1x8192x128 .bf16) (x2 : Vec Ideal S1x64x128x128 .bf16)
    (hd : Fin 8) (q : Fin 128) (hs : ∀ n, score x0 x1 hd q n ≠ ⊤ ∧ score x0 x1 hd q n ≠ ⊥) (d : Fin 64) :
    ∃ m : ℝ, outv (fin x0 x1 x2).L (View.ld (fin x0 x1 x2).A accRect0) (View.ld (fin x0 x1 x2).A accRect1)
        (ix3 0 q ⟨hd.val * 64 + d.val, by omega⟩)
      = OnlineSoftmax.num (sR x0 x1 hd q) (vE x2 hd d) m 8192
        * Ideal.div 1 ((OnlineSoftmax.den (sR x0 x1 hd q) m 8192 : ℝ) : EReal) := by
  obtain ⟨m, _, hL, hA⟩ := carried x0 x1 x2 hd q hs k0_t1_loop.trips le_rfl
  have e : 256 * k0_t1_loop.trips = 8192 := by rw [trips_eq]
  refine ⟨m, ?_⟩
  rw [outv_at, fin_eq, hL, hA d, e]

end AttnAHand
-- ==== Proof.AttnARefRead.lean ====
module

public import proofs.«01_k».proof.Proof.Gen.AttnARefIdeal.Read
public import Idealize.ShloMosaic.Lib.Pipeline.ValueKit
public import Idealize.ShloMosaic.Lib.Pointwise
public import proofs.«01_k».proof.Proof.OnlineSoftmax

/-! The attention reference at one output position: the plain quotient of a weighted sum of the values and the sum of the weights. -/

@[expose] public section

set_option maxRecDepth 16384

noncomputable section

namespace AttnARefHand

open Cert.AttnARefIdeal Cert.AttnARefIdeal.Gen Cert.AttnARefIdeal.Read Idealize.ShloMosaic Idealize.ShloMosaic.TcCoe Idealize.SL.Sem

abbrev QT : Type := (⟨S4x512x8192, .bf16⟩ : BufTy).Contents (Elt Ideal)
abbrev KT : Type := (⟨S4x8192x128, .bf16⟩ : BufTy).Contents (Elt Ideal)
abbrev VT : Type := (⟨S4x64x128x128, .bf16⟩ : BufTy).Contents (Elt Ideal)

theorem v1_at (x0 : QT) (b : Fin 4) (kv : Fin 2) (g : Fin 4) (e : Fin 64) (q : Fin 8192) :
    val_main_v1 (F := Ideal) x0 (ix5 b kv g e q) = x0 (ix3 b ⟨(kv.val * 4 + g.val) * 64 + e.val, by omega⟩ q) := by
  pointwise [val_main_v1, val_main_v0]
  exact congrArg (fun j => x0 (ix3 b j q)) (Fin.ext (by dsimp only; omega))

theorem v3_at (x1 : KT) (b : Fin 4) (s : Fin 8192) (kv : Fin 2) (e : Fin 64) :
    val_main_v3 (F := Ideal) x1 (ix4 b s kv e) = x1 (ix3 b s ⟨kv.val * 64 + e.val, by omega⟩) := by
  pointwise [val_main_v3, val_main_v2]

theorem v7_at (x2 : VT) (b : Fin 4) (s : Fin 8192) (kv : Fin 2) (d : Fin 64) :
    val_main_v7 (F := Ideal) x2 (ix4 b s kv d)
      = x2 (ix4 b ⟨s.val / 128, by omega⟩ ⟨kv.val * 64 + d.val, by omega⟩ ⟨s.val % 128, by omega⟩) := by
  pointwise [val_main_v7, val_main_v6, val_main_v5, val_main_v4]

/-- The score of query `q` of head `4 kv + g` against key `s`. -/
def score (x0 : QT) (x1 : KT) (b : Fin 4) (kv : Fin 2) (g : Fin 4) (q s : Fin 8192) : EReal :=
  ∑ e : Fin 64, x0 (ix3 b ⟨(kv.val * 4 + g.val) * 64 + e.val, by omega⟩ q) * x1 (ix3 b s ⟨kv.val * 64 + e.val, by omega⟩)

theorem v8_at (x0 : QT) (x1 : KT) (b : Fin 4) (kv : Fin 2) (g : Fin 4) (q s : Fin 8192) :
    val_main_v8 (F := Ideal) x0 x1 (ix5 b kv g q s) = score x0 x1 b kv g q s := by
  rw [val_main_v8_apply]
  refine Finset.sum_congr rfl fun e _ => congrArg₂ (· * ·) ?_ ?_
  · refine Eq.trans (congrArg _ (funext fun a => ?_)) (v1_at x0 b kv g e q)
    match a with | ⟨0, _⟩ => rfl | ⟨1, _⟩ => rfl | ⟨2, _⟩ => rfl | ⟨3, _⟩ => rfl | ⟨4, _⟩ => rfl
  · refine Eq.trans (congrArg _ (funext fun a => ?_)) (v3_at x1 b s kv e)
    match a with | ⟨0, _⟩ => rfl | ⟨1, _⟩ => rfl | ⟨2, _⟩ => rfl | ⟨3, _⟩ => rfl

theorem neg_inf : Ideal.ofBits .f32 0xFF800000#32 = ⊥ := by
  simp [Ideal.ofBits, Ideal.ieee]

/-- A maximum along the last axis, over the entries of the row. -/
theorem rowmax_at (y : (⟨S4x2x4x8192x8192, .f32⟩ : BufTy).Contents (Elt Ideal)) (z : (⟨S_, .f32⟩ : BufTy).Contents (Elt Ideal))
    (b : Fin 4) (kv : Fin 2) (g : Fin 4) (q : Fin 8192) :
    Host.reduce (FloatOps.maximumf (F := Ideal) (φ := .f32)) y z reducesTo_S4x2x4x8192x8192_S4x2x4x8192_d4 h_S_ (ix4 b kv g q)
      = (Finset.univ : Finset (Fin 8192)).fold max (z (Shape.Idx.first h_S_)) (fun s => y (ix5 b kv g q s)) := by
  rw [Host.reduce_eq_fold_single (FloatOps.maximumf (F := Ideal) (φ := .f32)) y z reducesTo_S4x2x4x8192x8192_S4x2x4x8192_d4 (by decide) h_S_]
  refine congrArg (Finset.fold max (z (Shape.Idx.first h_S_)) · Finset.univ) (funext fun s => ?_)
  exact congrArg y (funext fun a => Fin.ext (by match a with | ⟨0, _⟩ => rfl | ⟨1, _⟩ => rfl | ⟨2, _⟩ => rfl | ⟨3, _⟩ => rfl | ⟨4, _⟩ => rfl))

/-- The largest score of a query. -/
def top (x0 : QT) (x1 : KT) (b : Fin 4) (kv : Fin 2) (g : Fin 4) (q : Fin 8192) : EReal :=
  (Finset.univ : Finset (Fin 8192)).fold max ⊥ (score x0 x1 b kv g q)

theorem v11_at (x0 : QT) (x1 : KT) (b : Fin 4) (kv : Fin 2) (g : Fin 4) (q : Fin 8192) :
    val_main_v11 (F := Ideal) x0 x1 (ix4 b kv g q) = top x0 x1 b kv g q := by
  have h9 : val_main_v9 (F := Ideal) x0 x1 (ix4 b kv g q) = top x0 x1 b kv g q := by
    unfold val_main_v9
    rw [rowmax_at]
    unfold top
    rw [funext (v8_at x0 x1 b kv g q)]
    exact congrArg (Finset.fold max · _ _) neg_inf
  have h10 : val_main_v10 (F := Ideal) (ix4 b kv g q) = ⊥ := by
    refine Eq.trans ?_ neg_inf
    pointwise [val_main_v10, val_main_cst_0]
  rw [val_main_v11_apply, h9, h10]
  exact max_eq_right bot_le

theorem v15_at (x0 : QT) (x1 : KT) (b : Fin 4) (kv : Fin 2) (g : Fin 4) (q s : Fin 8192) :
    val_main_v15 (F := Ideal) x0 x1 (ix5 b kv g q s) = Ideal.exp (score x0 x1 b kv g q s - top x0 x1 b kv g q) := by
  rw [← v8_at, ← v11_at]
  unfold val_main_v15 val_main_v14 val_main_v13 val_main_v12
  generalize val_main_v8 (F := Ideal) x0 x1 = y
  generalize val_main_v11 (F := Ideal) x0 x1 = z
  pointwise []

theorem v16_at (x0 : QT) (x1 : KT) (b : Fin 4) (kv : Fin 2) (g : Fin 4) (q : Fin 8192) :
    val_main_v16 (F := Ideal) x0 x1 (ix4 b kv g q)
      = ∑ s : Fin 8192, Ideal.exp (score x0 x1 b kv g q s - top x0 x1 b kv g q) := by
  rw [val_main_v16_apply]
  have h0 : val_main_cst_1 (F := Ideal) (Shape.Idx.first h_S_) = (0 : EReal) := by
    rw [val_main_cst_1_apply]; exact Ideal.ofBits_zero_f32
  rw [h0, zero_add]
  refine Finset.sum_congr rfl fun s _ => Eq.trans (congrArg _ (funext fun a => ?_)) (v15_at x0 x1 b kv g q s)
  match a with | ⟨0, _⟩ => rfl | ⟨1, _⟩ => rfl | ⟨2, _⟩ => rfl | ⟨3, _⟩ => rfl | ⟨4, _⟩ => rfl

theorem v19_at (x0 : QT) (x1 : KT) (b : Fin 4) (kv : Fin 2) (g : Fin 4) (q s : Fin 8192) :
    val_main_v19 (F := Ideal) x0 x1 (ix5 b kv g q s)
      = Ideal.div (Ideal.exp (score x0 x1 b kv g q s - top x0 x1 b kv g q))
          (∑ s : Fin 8192, Ideal.exp (score x0 x1 b kv g q s - top x0 x1 b kv g q)) := by
  rw [← v15_at, ← v16_at]
  unfold val_main_v19 val_main_v18 val_main_v17
  generalize val_main_v15 (F := Ideal) x0 x1 = y
  generalize val_main_v16 (F := Ideal) x0 x1 = z
  pointwise []

theorem v20_at (x0 : QT) (x1 : KT) (x2 : VT) (b : Fin 4) (kv : Fin 2) (d : Fin 64) (g : Fin 4) (q : Fin 8192) :
    val_main_v20 (F := Ideal) x0 x1 x2 (ix5 b kv d g q)
      = ∑ s : Fin 8192, val_main_v7 (F := Ideal) x2 (ix4 b s kv d) * val_main_v19 (F := Ideal) x0 x1 (ix5 b kv g q s) := by
  rw [val_main_v20_apply]
  refine Finset.sum_congr rfl fun s _ => congrArg₂ (· * ·) (congrArg _ (funext fun a => ?_)) (congrArg _ (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl | ⟨4, _⟩ => rfl

theorem v23_at (x0 : QT) (x1 : KT) (x2 : VT) (b : Fin 4) (kv : Fin 2) (g : Fin 4) (q : Fin 8192) (d : Fin 64) :
    val_main_v23 (F := Ideal) x0 x1 x2 (ix3 b q ⟨(kv.val * 4 + g.val) * 64 + d.val, by omega⟩)
      = val_main_v20 (F := Ideal) x0 x1 x2 (ix5 b kv d g q) := by
  unfold val_main_v23 val_main_v22 val_main_v21
  generalize val_main_v20 (F := Ideal) x0 x1 x2 = y
  pointwise []

/-- The reference's output as the numerator over the denominator, at any real offset `m` of the scores. -/
theorem ref_at (x0 : QT) (x1 : KT) (x2 : VT) (b : Fin 4) (kv : Fin 2) (g : Fin 4) (q : Fin 8192) (d : Fin 64)
    (s : ℕ → ℝ) (v : ℕ → EReal) (m : ℝ) (hs : ∀ n : Fin 8192, score x0 x1 b kv g q n = ((s n : ℝ) : EReal))
    (hv : ∀ n : Fin 8192, x2 (ix4 b ⟨n.val / 128, by omega⟩ ⟨kv.val * 64 + d.val, by omega⟩ ⟨n.val % 128, by omega⟩) = v n) :
    val_main_v23 (F := Ideal) x0 x1 x2 (ix3 b q ⟨(kv.val * 4 + g.val) * 64 + d.val, by omega⟩)
      = OnlineSoftmax.num s v m 8192 * Ideal.div 1 ((OnlineSoftmax.den s m 8192 : ℝ) : EReal) := by
  obtain ⟨m', hm'⟩ := OnlineSoftmax.fold_real (score x0 x1 b kv g q) (fun n => s n) hs
  have ht : top x0 x1 b kv g q = (m' : EReal) := hm'
  rw [v23_at, v20_at, ← OnlineSoftmax.plain s v m m' (by norm_num : 0 < 8192) (score x0 x1 b kv g q)
    (fun n => val_main_v7 (F := Ideal) x2 (ix4 b n kv d)) hs (fun n => (v7_at x2 b n kv d).trans (hv n))]
  refine Finset.sum_congr rfl fun n _ => congrArg₂ (· * ·) rfl ?_
  rw [v19_at, ht]

end AttnARefHand
-- ==== Proof.AttnAValue.lean ====
module

public import proofs.«01_k».proof.Proof.AttnAOut
public import proofs.«01_k».proof.Proof.AttnARefRead
public import proofs.«01_k».proof.Proof.Gen.AttnAIdeal.Value
public import Idealize.ShloMosaic.Lib.Pipeline.ReadBack

/-! The attention kernel's result array is the reference's, for finite queries and keys. -/

@[expose] public section

set_option maxRecDepth 16384

noncomputable section

namespace AttnAHand

open Cert.AttnAIdeal Cert.AttnAIdeal.Gen Cert.AttnAIdeal.Value Idealize.ShloMosaic Idealize.ShloMosaic.TcCoe Idealize.SL.Sem

theorem idx0 : ∀ t : Fin cfg0.N, win0_0.index t = ![(grid0.coords t 0).val, 0, (grid0.coords t 1).val] :=
  (by decide +kernel : ∀ t : Fin grid0.N, _)
theorem idx1 : ∀ t : Fin cfg0.N, win0_1.index t = ![(grid0.coords t 0).val, 0, 0] :=
  (by decide +kernel : ∀ t : Fin grid0.N, _)
theorem idx2 : ∀ t : Fin cfg0.N, win0_2.index t = ![(grid0.coords t 0).val, 0, 0, 0] :=
  (by decide +kernel : ∀ t : Fin grid0.N, _)
theorem idx3 : ∀ t : Fin cfg0.N, win0_3.index t = ![(grid0.coords t 0).val, (grid0.coords t 1).val, 0] :=
  (by decide +kernel : ∀ t : Fin grid0.N, _)

/-- A finite sum of products of finite numbers is finite. -/
theorem sum_finite {n : ℕ} (f g : Fin n → EReal) (hf : ∀ i, f i ≠ ⊤ ∧ f i ≠ ⊥) (hg : ∀ i, g i ≠ ⊤ ∧ g i ≠ ⊥) :
    (∑ i, f i * g i) ≠ ⊤ ∧ (∑ i, f i * g i) ≠ ⊥ := by
  have h : ∑ i, f i * g i = ((∑ i, (f i).toReal * (g i).toReal : ℝ) : EReal) := by
    rw [OnlineSoftmax.coe_sum_fin]
    refine Finset.sum_congr rfl fun i _ => ?_
    rw [EReal.coe_mul, EReal.coe_toReal (hf i).1 (hf i).2, EReal.coe_toReal (hg i).1 (hg i).2]
  rw [h]
  exact ⟨EReal.coe_ne_top _, EReal.coe_ne_bot _⟩

variable (m : (ℓ : Loc nD τ sig) → Buf (Elt Ideal) ℓ)

/-- The batch of grid point `t`. -/
def bat (t : Fin cfg0.N) : Fin 4 := ⟨(grid0.coords t 0).val, (grid0.coords t 0).isLt⟩
/-- The query tile of grid point `t`. -/
def til (t : Fin cfg0.N) : Fin 64 := ⟨(grid0.coords t 1).val, (grid0.coords t 1).isLt⟩

theorem blk_q (c : Dev nD) (t : Fin cfg0.N) (r : Fin 512) (q : Fin 128) :
    iblk m c 0 t (ix3 0 r q) = m ((c : Thread nD τ).loc main_arg0) (ix3 (bat t) r ⟨(til t).val * 128 + q.val, by omega⟩) := by
  unfold bat til
  blk_ext [iblk, V, idx0 t]

theorem blk_k (c : Dev nD) (t : Fin cfg0.N) (n : Fin 8192) (r : Fin 128) :
    iblk m c 1 t (ix3 0 n r) = m ((c : Thread nD τ).loc main_arg1) (ix3 (bat t) n r) := by
  unfold bat
  blk_ext [iblk, V, idx1 t]

theorem blk_v (c : Dev nD) (t : Fin cfg0.N) (n : Fin 64) (r s : Fin 128) :
    iblk m c 2 t (ix4 0 n r s) = m ((c : Thread nD τ).loc main_arg2) (ix4 (bat t) n r s) := by
  unfold bat
  blk_ext [iblk, V, idx2 t]

theorem emb_out (t : Fin cfg0.N) (q : Fin 128) (j : Fin 512) :
    ((win0_3.blk t).view.emb (ix3 0 q j) : S4x8192x512.Idx) = ix3 (bat t) ⟨(til t).val * 128 + q.val, by omega⟩ j := by
  unfold bat til
  blk_ext [idx3 t]

/-- What a grid point leaves in the output block, entry by entry. -/
theorem left_at (c : Dev nD) (t : Fin cfg0.N) (y : S1x128x512.Idx) :
    outsAt0 m c t y = outv (fin (iblk m c 0 t) (iblk m c 1 t) (iblk m c 2 t)).L
      (View.ld (fin (iblk m c 0 t) (iblk m c 1 t) (iblk m c 2 t)).A accRect0)
      (View.ld (fin (iblk m c 0 t) (iblk m c 1 t) (iblk m c 2 t)).A accRect1) y := by
  refine congrFun ?_ y
  simp only [outsAt0]
  exact out_block ..

theorem point (c : Dev nD) (hq : ∀ i, m ((c : Thread nD τ).loc main_arg0) i ≠ (⊤ : EReal) ∧ m ((c : Thread nD τ).loc main_arg0) i ≠ (⊥ : EReal))
    (hk : ∀ i, m ((c : Thread nD τ).loc main_arg1) i ≠ (⊤ : EReal) ∧ m ((c : Thread nD τ).loc main_arg1) i ≠ (⊥ : EReal))
    (t : Fin cfg0.N) (q : Fin 128) (kv : Fin 2) (g : Fin 4) (d : Fin 64) :
    outsAt0 m c t (ix3 0 q ⟨(kv.val * 4 + g.val) * 64 + d.val, by omega⟩)
      = Cert.AttnARefIdeal.Read.val_main_v23 (F := Ideal) (m ((c : Thread nD τ).loc main_arg0)) (m ((c : Thread nD τ).loc main_arg1)) (m ((c : Thread nD τ).loc main_arg2))
          (ix3 (bat t) ⟨(til t).val * 128 + q.val, by omega⟩ ⟨(kv.val * 4 + g.val) * 64 + d.val, by omega⟩) := by
  have hhd : (kv.val * 4 + g.val) / 4 = kv.val := by omega
  have hsc : ∀ n, score (iblk m c 0 t) (iblk m c 1 t) ⟨kv.val * 4 + g.val, by omega⟩ q n
      = AttnARefHand.score (m ((c : Thread nD τ).loc main_arg0)) (m ((c : Thread nD τ).loc main_arg1)) (bat t) kv g ⟨(til t).val * 128 + q.val, by omega⟩ n := by
    intro n
    unfold score AttnARefHand.score
    refine Finset.sum_congr rfl fun e _ => ?_
    rw [blk_q, blk_k, mul_comm]
    refine congrArg₂ (· * ·) rfl (congrArg (fun r => m ((c : Thread nD τ).loc main_arg1) (ix3 (bat t) n r)) (Fin.ext ?_))
    dsimp only
    rw [hhd]
  have hfin : ∀ n, score (iblk m c 0 t) (iblk m c 1 t) ⟨kv.val * 4 + g.val, by omega⟩ q n ≠ ⊤
      ∧ score (iblk m c 0 t) (iblk m c 1 t) ⟨kv.val * 4 + g.val, by omega⟩ q n ≠ ⊥ := fun n => by
    rw [hsc n]
    exact sum_finite _ _ (fun e => hq _) (fun e => hk _)
  obtain ⟨m0, h⟩ := outv_fin (iblk m c 0 t) (iblk m c 1 t) (iblk m c 2 t) ⟨kv.val * 4 + g.val, by omega⟩ q hfin d
  rw [left_at, h]
  refine (AttnARefHand.ref_at _ _ _ (bat t) kv g ⟨(til t).val * 128 + q.val, by omega⟩ d _ _ m0 (fun n => ?_) (fun n => ?_)).symm
  · rw [← hsc n]
    unfold sR
    rw [dif_pos n.isLt]
    exact (EReal.coe_toReal (hfin n).1 (hfin n).2).symm
  · unfold vE
    rw [dif_pos n.isLt, blk_v]
    refine congrArg (fun r => m ((c : Thread nD τ).loc main_arg2) (ix4 (bat t) ⟨n.val / 128, by omega⟩ r ⟨n.val % 128, by omega⟩)) (Fin.ext ?_)
    dsimp only
    rw [hhd]

theorem final (c : Dev nD) (hq : ∀ i, m ((c : Thread nD τ).loc main_arg0) i ≠ (⊤ : EReal) ∧ m ((c : Thread nD τ).loc main_arg0) i ≠ (⊥ : EReal))
    (hk : ∀ i, m ((c : Thread nD τ).loc main_arg1) i ≠ (⊤ : EReal) ∧ m ((c : Thread nD τ).loc main_arg1) i ≠ (⊥ : EReal)) :
    (dats m 0 c).arrAt 3 cfg0.N
      = Cert.AttnARefIdeal.Read.val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  show outsAt0 m c t (y : S1x128x512.Idx) = _
  have hy0 : (y 0 : ℕ) < 1 := (y 0).isLt
  have hy1 : (y 1 : ℕ) < 128 := (y 1).isLt
  have hy2 : (y 2 : ℕ) < 512 := (y 2).isLt
  have hy : (y : S1x128x512.Idx) = ix3 0 ⟨(y 1).val, hy1⟩ ⟨((y 2).val / 256 * 4 + (y 2).val / 64 % 4) * 64 + (y 2).val % 64, by omega⟩ :=
    funext fun a => Fin.ext (by
      match a with
      | ⟨0, _⟩ => exact Nat.lt_one_iff.1 hy0
      | ⟨1, _⟩ => rfl
      | ⟨2, _⟩ => show (y 2 : ℕ) = ((y 2).val / 256 * 4 + (y 2).val / 64 % 4) * 64 + (y 2).val % 64; omega)
  rw [hy]
  refine (point m c hq hk t ⟨(y 1).val, hy1⟩ ⟨(y 2).val / 256, by omega⟩ ⟨(y 2).val / 64 % 4, by omega⟩ ⟨(y 2).val % 64, by omega⟩).trans ?_
  exact congrArg _ (emb_out t _ _).symm

end AttnAHand
-- ==== Proof.AttnAClaim.lean ====
module

public import proofs.«01_k».proof.Defs
public import proofs.«01_k».proof.Proof.AttnAValue
public import proofs.«01_k».proof.Proof.Gen.AttnARefIdeal.Run
public import proofs.«01_k».proof.Proof.Gen.Pre_finite_qk

/-! The attention claim: kernel and reference run and end with the same result array. -/

@[expose] public section

set_option maxRecDepth 16384

noncomputable section

namespace AttnAHand

open Cert.AttnAIdeal Cert.AttnAIdeal.Gen Idealize.ShloMosaic Idealize.ShloMosaic.TcCoe Idealize.SL.Sem

theorem pos_inf : Ideal.ofBits .f32 0x7F800000#32 = ⊤ := by
  simp [Ideal.ofBits, Ideal.ieee]

/-- A number whose absolute value lies below plus infinity is neither infinity. -/
theorem finite_of_abs_lt (x : EReal) (h : max x (-x) < ⊤) : x ≠ ⊤ ∧ x ≠ ⊥ := by
  constructor
  · rintro rfl
    simp at h
  · rintro rfl
    simp at h

theorem bit_one {b : Bool} : BitVec.ofBool b = 1#1 → b = true := by cases b <;> decide

theorem fin_q (a0 : Vec Ideal S4x512x8192 .bf16) (a1 : Vec Ideal S4x8192x128 .bf16) (a2 : Vec Ideal S4x64x128x128 .bf16)
    (h : (Cert.Pre_finite_qk.fn (F := Ideal) a0 a1 a2).1 = fun _ => 1#1) (i : S4x512x8192.Idx) : a0 i ≠ (⊤ : EReal) ∧ a0 i ≠ (⊥ : EReal) := by
  have hi := congrFun h i
  revert hi
  idx_vars i
  pointwise [Cert.Pre_finite_qk.fn]
  rw [pos_inf]
  intro hi
  exact finite_of_abs_lt _ (of_decide_eq_true (bit_one hi))

theorem fin_k (a0 : Vec Ideal S4x512x8192 .bf16) (a1 : Vec Ideal S4x8192x128 .bf16) (a2 : Vec Ideal S4x64x128x128 .bf16)
    (h : (Cert.Pre_finite_qk.fn (F := Ideal) a0 a1 a2).2 = fun _ => 1#1) (i : S4x8192x128.Idx) : a1 i ≠ (⊤ : EReal) ∧ a1 i ≠ (⊥ : EReal) := by
  have hi := congrFun h i
  revert hi
  idx_vars i
  pointwise [Cert.Pre_finite_qk.fn]
  rw [pos_inf]
  intro hi
  exact finite_of_abs_lt _ (of_decide_eq_true (bit_one hi))

theorem algebraic : Cert.algebraic_AttnAIdeal_AttnARefIdeal_pre_finite_qk := by
  intro m ρ m' ρ' hp hag
  refine ⟨fun c => Cert.AttnARefIdeal.Read.val_main_v23 (F := Ideal) (m ((c : Thread nD τ).loc main_arg0)) (m ((c : Thread nD τ).loc main_arg1)) (m ((c : Thread nD τ).loc main_arg2)), ?_, ?_⟩
  · exact (θ_run defs _ _).mono (fun r h c => ⟨(h c).1.trans (final m c (fin_q _ _ _ (hp c).1) (fin_k _ _ _ (hp c).2)), (h c).2⟩)
      (Value.run_blocks (F := Ideal) m ρ)
  · refine (θ_run Cert.AttnARefIdeal.defs _ _).mono (fun r h c => ⟨(h c).1.trans ?_, (h c).2⟩) (Cert.AttnARefIdeal.Value.run (F := Ideal) m' ρ')
    refine (Cert.AttnARefIdeal.Read.val_main_v23_eq (F := Ideal) _ _ _).trans ?_
    obtain ⟨h0, h1, h2⟩ := hag c
    rw [h0, h1, h2]

end AttnAHand
-- ==== Proof.RowMath.lean ====
module

public import Idealize.ShloMosaic.Lib.Pipeline.ValueKit
public import Idealize.ShloMosaic.Lib.Pointwise

/-! One token's row through the layer's pointwise parts, projections and feed-forward halves, over the extended reals. -/

@[expose] public section

noncomputable section

namespace RowMath

open Idealize.ShloMosaic

/-- The logistic gate. -/
def sg (x : EReal) : EReal := Ideal.div 1 (1 + Ideal.exp (-x))

/-- The two branches, each gated by its half of the gate row, added. -/
def mix (f1 f2 : Fin 512 → EReal) (gt : Fin 2048 → EReal) (w1 w2 : Fin 512 → Fin 1024 → EReal) (k : Fin 1024) : EReal :=
  sg (gt ⟨k.val, by omega⟩) * (∑ e, f1 e * w1 e k) + sg (gt ⟨1024 + k.val, by omega⟩) * (∑ e, f2 e * w2 e k)

/-- A row times a matrix. -/
def lin {n p : ℕ} (x : Fin n → EReal) (w : Fin n → Fin p → EReal) (j : Fin p) : EReal := ∑ k, x k * w k j

/-- The row over the square root of its mean square, times the norm's weight. -/
def rms (h w : Fin 1024 → EReal) (j : Fin 1024) : EReal :=
  h j * Ideal.rsqrt (Ideal.div (∑ k, h k * h k) (Ideal.ofBits .f32 0x44800000#32) + Ideal.ofBits .f32 0x358637BD#32) * w j

/-- The hidden row of the feed-forward layer: the first half gated by its own logistic, times the second half. -/
def hid (u : Fin 5632 → EReal) (k : Fin 2816) : EReal :=
  u ⟨k.val, by omega⟩ * sg (u ⟨k.val, by omega⟩) * u ⟨2816 + k.val, by omega⟩

/-- A row with half of its feed-forward output added. -/
def half (h w : Fin 1024 → EReal) (wi : Fin 1024 → Fin 5632 → EReal) (wo : Fin 2816 → Fin 1024 → EReal) (j : Fin 1024) : EReal :=
  h j + Ideal.ofBits .f32 0x3F000000#32 * lin (hid (lin (rms h w) wi)) wo j

end RowMath
-- ==== Proof.BackRow.lean ====
module

public import proofs.«01_k».proof.Proof.RowMath
public import proofs.«01_k».proof.Proof.Gen.BackIdeal.Value

@[expose] public section

set_option maxRecDepth 16384

noncomputable section

namespace BackHand

open Cert.BackIdeal Cert.BackIdeal.Gen Idealize.ShloMosaic Idealize.ShloMosaic.TcCoe Idealize.SL.Sem RowMath

theorem pay2_at (v0 : Vec Ideal S256x512 .bf16) (v2 : Vec Ideal S512x1024 .bf16) (v5 : Vec Ideal S256x512 .bf16) (v7 : Vec Ideal S512x1024 .bf16)
    (v10 : Vec Ideal S256x2048 .bf16) (v33 : Vec Ideal S1024x1024 .bf16) (r : Fin 256) (j : Fin 1024) :
    k0_pay2 (F := Ideal) v0 v2 v5 v7 v10 v33 (ix2 r j)
      = lin (mix (fun e => v0 (ix2 r e)) (fun e => v5 (ix2 r e)) (fun g => v10 (ix2 r g)) (fun e k => v2 (ix2 e k)) (fun e k => v7 (ix2 e k)))
          (fun k j => v33 (ix2 k j)) j := by
  unfold lin mix sg
  pointwise [k0_pay2]
  simp only [zero_sub]

theorem hz2 : (![0, 0] : Fin 2 → Nat) = fun _ => 0 := by decide

/-- The branches' projection reads its operands whole. -/
theorem pay6_eq (x0 : Vec Ideal S256x1024 .f32) (x1 x2 : Vec Ideal S256x512 .bf16) (x3 : Vec Ideal S256x2048 .bf16) (x4 x5 : Vec Ideal S512x1024 .bf16)
    (x6 : Vec Ideal S1024x1024 .bf16) (x7 : Vec Ideal S1x1024 .f32) (x8 : Vec Ideal S1024x5632 .bf16) (x9 : Vec Ideal S2816x1024 .bf16)
    (x10 : Vec Ideal S1x1024 .f32) : k0_pay6 (F := Ideal) x0 x1 x2 x3 x4 x5 x6 x7 x8 x9 x10 = k0_pay2 (F := Ideal) x1 x4 x2 x5 x3 x6 := by
  have h1 : View.ld x1 r0_0 = x1 := View.ld_unit_zero hz2 _ _
  have h2 : View.ld x2 r0_0 = x2 := View.ld_unit_zero hz2 _ _
  have h3 : View.ld x3 r0_2 = x3 := View.ld_unit_zero hz2 _ _
  have h4 : View.ld x4 r0_1 = x4 := View.ld_unit_zero hz2 _ _
  have h5 : View.ld x5 r0_1 = x5 := View.ld_unit_zero hz2 _ _
  have h6 : View.ld x6 r0_4 = x6 := View.ld_unit_zero hz2 _ _
  unfold k0_pay6
  rw [h1, h2, h3, h4, h5, h6]

theorem pay3_at (v31 v35 : Vec Ideal S256x1024 .f32) (v37 : Vec Ideal S1x1024 .f32) (v52 : Vec Ideal S1024x5632 .bf16) (v67 : Vec Ideal S2816x1024 .bf16)
    (r : Fin 256) (j : Fin 1024) :
    k0_pay3 (F := Ideal) v31 v35 v37 v52 v67 (ix2 r j)
      = half (fun k => v31 (ix2 r k) + v35 (ix2 r k)) (fun k => v37 (ix2 0 k)) (fun i k => v52 (ix2 i k)) (fun i k => v67 (ix2 i k)) j := by
  unfold half lin hid rms sg
  pointwise [k0_pay3]
  simp only [zero_sub]

theorem pay5_at (v31 v35 : Vec Ideal S256x1024 .f32) (v37 : Vec Ideal S1x1024 .f32) (v52 : Vec Ideal S1024x5632 .bf16) (v67 : Vec Ideal S2816x1024 .bf16)
    (r : Fin 256) :
    k0_pay5 (F := Ideal) v31 v35 v37 v52 v67 (ix2 r 0)
      = ∑ k : Fin 1024, k0_pay3 (F := Ideal) v31 v35 v37 v52 v67 (ix2 r k) * k0_pay3 (F := Ideal) v31 v35 v37 v52 v67 (ix2 r k) := by
  unfold k0_pay5
  generalize k0_pay3 (F := Ideal) v31 v35 v37 v52 v67 = y
  pointwise []

theorem pay1_at (v72 : FVec Ideal S256x1024 .f32) (v74 : FVec Ideal S1x1024 .f32) (v77 : FVec Ideal S256x1 .f32) (r : Fin 256) (j : Fin 1024) :
    k0_pay1 (F := Ideal) v72 v74 v77 (ix2 r j)
      = v72 (ix2 r j) * Ideal.rsqrt (Ideal.div (v77 (ix2 r 0)) (Ideal.ofBits .f32 0x44800000#32) + Ideal.ofBits .f32 0x358637BD#32) * v74 (ix2 0 j) := by
  pointwise [k0_pay1]

end BackHand
-- ==== Proof.BackRefRead.lean ====
module

public import proofs.«01_k».proof.Proof.RowMath
public import proofs.«01_k».proof.Proof.Gen.BackRefIdeal.Read

/-! The reference of the second half of the layer, one token's row at a time. -/

@[expose] public section

set_option maxRecDepth 16384

noncomputable section

namespace BackRefHand

open Cert.BackRefIdeal Cert.BackRefIdeal.Gen Cert.BackRefIdeal.Read Idealize.ShloMosaic Idealize.ShloMosaic.TcCoe Idealize.SL.Sem RowMath

abbrev T (s : Shape) (e : EltTy) : Type := (⟨s, e⟩ : BufTy).Contents (Elt Ideal)

theorem v28_at (x0 : T S32768x1024 .f32) (x1 x2 : T S4x8192x512 .bf16) (x3 : T S32768x2048 .bf16) (x4 x5 : T S1x512x1024 .f32) (x6 : T S1x1024x1024 .f32)
    (b : Fin 4) (s : Fin 8192) (j : Fin 1024) :
    val_main_v28 (F := Ideal) x0 x1 x2 x3 x4 x5 x6 (ix3 b s j)
      = x0 (ix2 ⟨b.val * 8192 + s.val, by omega⟩ j)
        + lin (mix (fun e => x1 (ix3 b s e)) (fun e => x2 (ix3 b s e)) (fun g => x3 (ix2 ⟨b.val * 8192 + s.val, by omega⟩ g))
            (fun e k => x4 (ix3 0 e k)) (fun e k => x5 (ix3 0 e k))) (fun k j => x6 (ix3 0 k j)) j := by
  unfold lin mix sg
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1, val_main_cst_2]

theorem v42_at (x0 : T S32768x1024 .f32) (x1 x2 : T S4x8192x512 .bf16) (x3 : T S32768x2048 .bf16) (x4 x5 : T S1x512x1024 .f32) (x6 : T S1x1024x1024 .f32)
    (x7 : T S1x1024 .f32) (b : Fin 4) (s : Fin 8192) (j : Fin 1024) :
    val_main_v42 (F := Ideal) x0 x1 x2 x3 x4 x5 x6 x7 (ix3 b s j)
      = rms (fun k => val_main_v28 (F := Ideal) x0 x1 x2 x3 x4 x5 x6 (ix3 b s k)) (fun k => x7 (ix2 0 k)) j := by
  unfold val_main_v42 val_main_v39 val_main_v38 val_main_v37 val_main_v36 val_main_v34 val_main_v32 val_main_v31 val_main_v30 rms
  generalize val_main_v28 (F := Ideal) x0 x1 x2 x3 x4 x5 x6 = y
  pointwise [val_main_v41, val_main_v40, val_main_v35, val_main_v33, val_main_v29, val_main_cst_3, val_main_cst_4, val_main_cst_5]

theorem v45_at (x0 : T S32768x1024 .f32) (x1 x2 : T S4x8192x512 .bf16) (x3 : T S32768x2048 .bf16) (x4 x5 : T S1x512x1024 .f32) (x6 : T S1x1024x1024 .f32)
    (x7 : T S1x1024 .f32) (x8 : T S1x1024x5632 .f32) (b : Fin 4) (s : Fin 8192) (j : Fin 5632) :
    val_main_v45 (F := Ideal) x0 x1 x2 x3 x4 x5 x6 x7 x8 (ix3 b s j)
      = lin (fun k => val_main_v42 (F := Ideal) x0 x1 x2 x3 x4 x5 x6 x7 (ix3 b s k)) (fun i k => x8 (ix3 0 i k)) j := by
  unfold val_main_v45 lin
  generalize val_main_v42 (F := Ideal) x0 x1 x2 x3 x4 x5 x6 x7 = y
  pointwise [val_main_v43]

theorem v49_at (x0 : T S32768x1024 .f32) (x1 x2 : T S4x8192x512 .bf16) (x3 : T S32768x2048 .bf16) (x4 x5 : T S1x512x1024 .f32) (x6 : T S1x1024x1024 .f32)
    (x7 : T S1x1024 .f32) (x8 : T S1x1024x5632 .f32) (b : Fin 4) (s : Fin 8192) (j : Fin 2816) :
    val_main_v49 (F := Ideal) x0 x1 x2 x3 x4 x5 x6 x7 x8 (ix3 b s j)
      = hid (fun k => val_main_v45 (F := Ideal) x0 x1 x2 x3 x4 x5 x6 x7 x8 (ix3 b s k)) j := by
  unfold val_main_v49 val_main_v48 val_main_call0_v5 val_main_call0_v3 val_main_call0_v1 val_main_call0_v0 val_main_v47 val_main_v46 hid sg
  generalize val_main_v45 (F := Ideal) x0 x1 x2 x3 x4 x5 x6 x7 x8 = y
  pointwise [val_main_call0_v4, val_main_call0_v2, val_main_call0_cst, val_main_call0_cst_0]

theorem v53_at (x0 : T S32768x1024 .f32) (x1 x2 : T S4x8192x512 .bf16) (x3 : T S32768x2048 .bf16) (x4 x5 : T S1x512x1024 .f32) (x6 : T S1x1024x1024 .f32)
    (x7 : T S1x1024 .f32) (x8 : T S1x1024x5632 .f32) (x9 : T S1x2816x1024 .f32) (b : Fin 4) (s : Fin 8192) (j : Fin 1024) :
    val_main_v53 (F := Ideal) x0 x1 x2 x3 x4 x5 x6 x7 x8 x9 (ix3 b s j)
      = half (fun k => val_main_v28 (F := Ideal) x0 x1 x2 x3 x4 x5 x6 (ix3 b s k)) (fun k => x7 (ix2 0 k)) (fun i k => x8 (ix3 0 i k))
          (fun i k => x9 (ix3 0 i k)) j := by
  unfold half
  rw [← funext (v42_at x0 x1 x2 x3 x4 x5 x6 x7 b s), ← funext (v45_at x0 x1 x2 x3 x4 x5 x6 x7 x8 b s), ← funext (v49_at x0 x1 x2 x3 x4 x5 x6 x7 x8 b s)]
  unfold val_main_v53 val_main_v52 val_main_v50 lin
  generalize val_main_v49 (F := Ideal) x0 x1 x2 x3 x4 x5 x6 x7 x8 = y
  generalize val_main_v28 (F := Ideal) x0 x1 x2 x3 x4 x5 x6 = z
  pointwise [val_main_v51, val_main_v44, val_main_cst_6]

theorem v67_at (x0 : T S32768x1024 .f32) (x1 x2 : T S4x8192x512 .bf16) (x3 : T S32768x2048 .bf16) (x4 x5 : T S1x512x1024 .f32) (x6 : T S1x1024x1024 .f32)
    (x7 : T S1x1024 .f32) (x8 : T S1x1024x5632 .f32) (x9 : T S1x2816x1024 .f32) (x10 : T S1024 .f32) (b : Fin 4) (s : Fin 8192) (j : Fin 1024) :
    val_main_v67 (F := Ideal) x0 x1 x2 x3 x4 x5 x6 x7 x8 x9 x10 (ix2 ⟨b.val * 8192 + s.val, by omega⟩ j)
      = rms (fun k => val_main_v53 (F := Ideal) x0 x1 x2 x3 x4 x5 x6 x7 x8 x9 (ix3 b s k)) (fun k => x10 (ix1 k)) j := by
  unfold val_main_v67 val_main_v66 val_main_v63 val_main_v62 val_main_v61 val_main_v60 val_main_v58 val_main_v56 val_main_v55 val_main_v54 rms
  generalize val_main_v53 (F := Ideal) x0 x1 x2 x3 x4 x5 x6 x7 x8 x9 = y
  pointwise [val_main_v65, val_main_v64, val_main_v59, val_main_v57, val_main_cst_7, val_main_cst_8, val_main_cst_9]

end BackRefHand
-- ==== Proof.BackValue.lean ====
module

public import proofs.«01_k».proof.Proof.BackRow
public import proofs.«01_k».proof.Proof.BackRefRead
public import proofs.«01_k».proof.Proof.Gen.BackIdeal.Value
public import Idealize.ShloMosaic.Lib.Pipeline.ReadBack
public import Idealize.ShloMosaic.Lib.Claim

/-! The kernel of the second half of the layer leaves the reference's result array. -/

@[expose] public section

set_option maxRecDepth 16384

noncomputable section

namespace BackHand

open Cert.BackIdeal Cert.BackIdeal.Gen Cert.BackIdeal.Value Idealize.ShloMosaic Idealize.ShloMosaic.TcCoe Idealize.SL.Sem RowMath

variable (m : (ℓ : Loc nD τ sig) → Buf (Elt Ideal) ℓ)

theorem idx_row : ∀ t : Fin cfg0.N, win0_0.index t = ![t.val, 0] ∧ win0_1.index t = ![t.val, 0] ∧ win0_2.index t = ![t.val, 0]
    ∧ win0_3.index t = ![t.val, 0] ∧ win0_11.index t = ![t.val, 0] :=
  (by decide +kernel : ∀ t : Fin grid0.N, _)

theorem idx_all : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

theorem tlt (t : Fin cfg0.N) : t.val < 128 := lt_of_lt_of_eq t.isLt (by decide)

/-- The batch of grid point `t`'s rows. -/
def bat (t : Fin cfg0.N) : Fin 4 := ⟨t.val / 32, by have := tlt t; omega⟩
/-- The position in the sequence of row `r` of grid point `t`'s block. -/
def pos (t : Fin cfg0.N) (r : Fin 256) : Fin 8192 := ⟨256 * (t.val % 32) + r.val, by omega⟩

theorem ent4 (c : Dev nD) (i : Fin 512) (j : Fin 1024) : V m c main_v1 (ix2 i j) = m ((c : Thread nD τ).loc main_arg4) (ix3 0 i j) := by
  entry_read
  pointwise []

theorem blk4 (c : Dev nD) (t : Fin cfg0.N) (i : Fin 512) (j : Fin 1024) : iblk m c 4 t (ix2 i j) = m ((c : Thread nD τ).loc main_arg4) (ix3 0 i j) :=
  Eq.trans (b := V m c main_v1 (ix2 i j)) (by blk_ext [iblk, idx_all t]) (ent4 m c i j)

theorem ent5 (c : Dev nD) (i : Fin 512) (j : Fin 1024) : V m c main_v3 (ix2 i j) = m ((c : Thread nD τ).loc main_arg5) (ix3 0 i j) := by
  entry_read
  pointwise []

theorem blk5 (c : Dev nD) (t : Fin cfg0.N) (i : Fin 512) (j : Fin 1024) : iblk m c 5 t (ix2 i j) = m ((c : Thread nD τ).loc main_arg5) (ix3 0 i j) :=
  Eq.trans (b := V m c main_v3 (ix2 i j)) (by blk_ext [iblk, idx_all t]) (ent5 m c i j)

theorem ent6 (c : Dev nD) (i : Fin 1024) (j : Fin 1024) : V m c main_v5 (ix2 i j) = m ((c : Thread nD τ).loc main_arg6) (ix3 0 i j) := by
  entry_read
  pointwise []

theorem blk6 (c : Dev nD) (t : Fin cfg0.N) (i : Fin 1024) (j : Fin 1024) : iblk m c 6 t (ix2 i j) = m ((c : Thread nD τ).loc main_arg6) (ix3 0 i j) :=
  Eq.trans (b := V m c main_v5 (ix2 i j)) (by blk_ext [iblk, idx_all t]) (ent6 m c i j)

theorem ent8 (c : Dev nD) (i : Fin 1024) (j : Fin 5632) : V m c main_v9 (ix2 i j) = m ((c : Thread nD τ).loc main_arg8) (ix3 0 i j) := by
  entry_read
  pointwise []

theorem blk8 (c : Dev nD) (t : Fin cfg0.N) (i : Fin 1024) (j : Fin 5632) : iblk m c 8 t (ix2 i j) = m ((c : Thread nD τ).loc main_arg8) (ix3 0 i j) :=
  Eq.trans (b := V m c main_v9 (ix2 i j)) (by blk_ext [iblk, idx_all t]) (ent8 m c i j)

theorem ent9 (c : Dev nD) (i : Fin 2816) (j : Fin 1024) : V m c main_v11 (ix2 i j) = m ((c : Thread nD τ).loc main_arg9) (ix3 0 i j) := by
  entry_read
  pointwise []

theorem blk9 (c : Dev nD) (t : Fin cfg0.N) (i : Fin 2816) (j : Fin 1024) : iblk m c 9 t (ix2 i j) = m ((c : Thread nD τ).loc main_arg9) (ix3 0 i j) :=
  Eq.trans (b := V m c main_v11 (ix2 i j)) (by blk_ext [iblk, idx_all t]) (ent9 m c i j)

theorem ent7 (c : Dev nD) (j : Fin 1024) : V m c main_v7 (ix2 0 j) = m ((c : Thread nD τ).loc main_arg7) (ix2 0 j) := by
  entry_read
  pointwise []

theorem blk7 (c : Dev nD) (t : Fin cfg0.N) (j : Fin 1024) : iblk m c 7 t (ix2 0 j) = m ((c : Thread nD τ).loc main_arg7) (ix2 0 j) :=
  Eq.trans (b := V m c main_v7 (ix2 0 j)) (by blk_ext [iblk, idx_all t]) (ent7 m c j)

theorem ent10 (c : Dev nD) (j : Fin 1024) : V m c main_v12 (ix2 0 j) = m ((c : Thread nD τ).loc main_arg10) (ix1 j) := by
  entry_read
  pointwise []

theorem blk10 (c : Dev nD) (t : Fin cfg0.N) (j : Fin 1024) : iblk m c 10 t (ix2 0 j) = m ((c : Thread nD τ).loc main_arg10) (ix1 j) :=
  Eq.trans (b := V m c main_v12 (ix2 0 j)) (by blk_ext [iblk, idx_all t]) (ent10 m c j)

theorem ent1 (c : Dev nD) (b : Fin 4) (s : Fin 8192) (j : Fin 512) :
    V m c main_v13 (ix2 ⟨b.val * 8192 + s.val, by omega⟩ j) = m ((c : Thread nD τ).loc main_arg1) (ix3 b s j) := by
  entry_read
  pointwise []

theorem blk1 (c : Dev nD) (t : Fin cfg0.N) (r : Fin 256) (j : Fin 512) : iblk m c 1 t (ix2 r j) = m ((c : Thread nD τ).loc main_arg1) (ix3 (bat t) (pos t r) j) :=
  Eq.trans (b := V m c main_v13 (ix2 ⟨(bat t).val * 8192 + (pos t r).val, by omega⟩ j))
    (by unfold bat pos; blk_ext [iblk, idx_row t]) (ent1 m c (bat t) (pos t r) j)

theorem ent2 (c : Dev nD) (b : Fin 4) (s : Fin 8192) (j : Fin 512) :
    V m c main_v14 (ix2 ⟨b.val * 8192 + s.val, by omega⟩ j) = m ((c : Thread nD τ).loc main_arg2) (ix3 b s j) := by
  entry_read
  pointwise []

theorem blk2 (c : Dev nD) (t : Fin cfg0.N) (r : Fin 256) (j : Fin 512) : iblk m c 2 t (ix2 r j) = m ((c : Thread nD τ).loc main_arg2) (ix3 (bat t) (pos t r) j) :=
  Eq.trans (b := V m c main_v14 (ix2 ⟨(bat t).val * 8192 + (pos t r).val, by omega⟩ j))
    (by unfold bat pos; blk_ext [iblk, idx_row t]) (ent2 m c (bat t) (pos t r) j)

theorem blk0 (c : Dev nD) (t : Fin cfg0.N) (r : Fin 256) (j : Fin 1024) :
    iblk m c 0 t (ix2 r j) = m ((c : Thread nD τ).loc main_arg0) (ix2 ⟨(bat t).val * 8192 + (pos t r).val, by omega⟩ j) := by
  unfold bat pos
  blk_ext [iblk, V, idx_row t]

theorem blk3 (c : Dev nD) (t : Fin cfg0.N) (r : Fin 256) (j : Fin 2048) :
    iblk m c 3 t (ix2 r j) = m ((c : Thread nD τ).loc main_arg3) (ix2 ⟨(bat t).val * 8192 + (pos t r).val, by omega⟩ j) := by
  unfold bat pos
  blk_ext [iblk, V, idx_row t]

theorem emb_out (t : Fin cfg0.N) (r : Fin 256) (j : Fin 1024) :
    ((win0_11.blk t).view.emb (ix2 r j) : S32768x1024.Idx) = ix2 ⟨(bat t).val * 8192 + (pos t r).val, by omega⟩ j := by
  unfold bat pos
  blk_ext [idx_row t]

/-- The row after the two branches' projection. -/
theorem mid_at (c : Dev nD) (t : Fin cfg0.N) (r : Fin 256) (j : Fin 1024) :
    HAdd.hAdd (α := EReal) (β := EReal) (γ := EReal) (iblk m c 0 t (ix2 r j)) (k0_pay2 (F := Ideal) (iblk m c 1 t) (iblk m c 4 t) (iblk m c 2 t) (iblk m c 5 t) (iblk m c 3 t) (iblk m c 6 t) (ix2 r j))
      = Cert.BackRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bat t) (pos t r) j) := by
  rw [pay2_at, blk0, BackRefHand.v28_at]
  simp only [blk1, blk2, blk3, blk4, blk5, blk6]

theorem ffn_at (c : Dev nD) (t : Fin cfg0.N) (r : Fin 256) (j : Fin 1024) :
    k0_pay3 (F := Ideal) (iblk m c 0 t) (k0_pay2 (F := Ideal) (iblk m c 1 t) (iblk m c 4 t) (iblk m c 2 t) (iblk m c 5 t) (iblk m c 3 t) (iblk m c 6 t))
        (iblk m c 7 t) (iblk m c 8 t) (iblk m c 9 t) (ix2 r j)
      = Cert.BackRefIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 (bat t) (pos t r) j) := by
  rw [pay3_at, BackRefHand.v53_at]
  simp only [blk7, blk8, blk9]
  exact congrArg (fun h => half h _ _ _ j) (funext fun k => mid_at m c t r k)

theorem point (c : Dev nD) (t : Fin cfg0.N) (r : Fin 256) (j : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = Cert.BackRefIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 ⟨(bat t).val * 8192 + (pos t r).val, by omega⟩ j) := by
  rw [BackRefHand.v67_at]
  frame_out
  have h6 : k0_pay6 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = k0_pay2 (F := Ideal) (iblk m c 1 t) (iblk m c 4 t) (iblk m c 2 t) (iblk m c 5 t) (iblk m c 3 t) (iblk m c 6 t) := by
    exact pay6_eq ..
  have h4 : k0_pay4 (F := Ideal) (iblk m c 10 t) (ix2 0 j) = m ((c : Thread nD τ).loc main_arg10) (ix1 j) := by
    refine Eq.trans ?_ (blk10 m c t j)
    pointwise [k0_pay4]
  rw [h6, pay1_at, pay5_at, h4]
  simp only [ffn_at]
  rfl

theorem final (c : Dev nD) : (dats m 0 c).arrAt 11 cfg0.N = Cert.BackRefIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (y : S256x1024.Idx) = _
  have hy : (y : S256x1024.Idx) = ix2 ⟨(y 0).val, (y 0).isLt⟩ ⟨(y 1).val, (y 1).isLt⟩ :=
    funext fun a => Fin.ext (by
      match a with
      | ⟨0, _⟩ => rfl
      | ⟨1, _⟩ => rfl)
  rw [hy]
  exact (point m c t ⟨(y 0).val, (y 0).isLt⟩ ⟨(y 1).val, (y 1).isLt⟩).trans (congrArg _ (emb_out t _ _).symm)

end BackHand
-- ==== Proof.BackClaim.lean ====
module

public import proofs.«01_k».proof.Defs
public import proofs.«01_k».proof.Proof.BackValue
public import proofs.«01_k».proof.Proof.Gen.BackRefIdeal.Run

/-! The claim of the second half of the layer: kernel and reference run and end with the same result array. -/

@[expose] public section

set_option maxRecDepth 16384

noncomputable section

namespace BackHand

open Cert.BackIdeal Cert.BackIdeal.Gen Idealize.ShloMosaic Idealize.ShloMosaic.TcCoe Idealize.SL.Sem

theorem algebraic : Cert.algebraic_BackIdeal_BackRefIdeal := by
  intro m ρ m' ρ' _ hag
  refine ⟨fun c => (Cert.BackIdeal.Gen.dats m 0 c).arrAt 11 cfg0.N, Value.run_blocks (F := Ideal) m ρ, ?_⟩
  refine (θ_run Cert.BackRefIdeal.defs _ _).mono (fun r h c => ⟨(h c).1.trans ?_, (h c).2⟩) (Cert.BackRefIdeal.Value.run (F := Ideal) m' ρ')
  refine (Cert.BackRefIdeal.Read.val_main_v67_eq (F := Ideal) m' c).trans ?_
  obtain ⟨h0, h1, h2, h3, h4, h5, h6, h7, h8, h9, h10⟩ := hag c
  rw [h0, h1, h2, h3, h4, h5, h6, h7, h8, h9, h10]
  exact (final m c).symm

end BackHand
-- ==== Proof.HeadMath.lean ====
module

public import proofs.«01_k».proof.Proof.RowMath

/-! One head of a query or key row: its norm and its rotation by position, over the extended reals. -/

@[expose] public section

noncomputable section

namespace RowMath

open Idealize.ShloMosaic

/-- The head over the square root of its mean square, times the norm's weight. -/
def hnorm (z w : Fin 64 → EReal) (d : Fin 64) : EReal :=
  z d * Ideal.rsqrt (Ideal.div (∑ k, z k * z k) (Ideal.ofBits .f32 0x42800000#32) + Ideal.ofBits .f32 0x358637BD#32) * w d

/-- The head turned: each half of 32 features consists of 16 pairs, feature `f` with feature `16 + f`, and pair `f` of half `a`
    turns by the angle with cosine `C a f` and sine `S a f`. -/
def turn (z : Fin 64 → EReal) (C S : Fin 2 → Fin 16 → EReal) (d : Fin 64) : EReal :=
  if _h : d.val / 16 % 2 < 1 then
    z ⟨d.val / 32 * 32 + d.val % 16, by omega⟩ * C ⟨d.val / 32, by omega⟩ ⟨d.val % 16, by omega⟩
      - z ⟨d.val / 32 * 32 + 16 + d.val % 16, by omega⟩ * S ⟨d.val / 32, by omega⟩ ⟨d.val % 16, by omega⟩
  else
    z ⟨d.val / 32 * 32 + 16 + d.val % 16, by omega⟩ * C ⟨d.val / 32, by omega⟩ ⟨d.val % 16, by omega⟩
      + z ⟨d.val / 32 * 32 + d.val % 16, by omega⟩ * S ⟨d.val / 32, by omega⟩ ⟨d.val % 16, by omega⟩

/-- The angle of position coordinate `n` at frequency `f`: the coordinate times the `f`-th of sixteen powers of 10000. -/
def ang (n f : ℕ) : EReal :=
  FloatOps.sitofp (F := Ideal) .f32 (BitVec.ofNat 32 n) * Ideal.pow (Ideal.ofBits .f32 0x461C4000#32)
    (Ideal.div (-(Ideal.ofBits .f32 0x40000000#32 * FloatOps.sitofp (F := Ideal) .f32 (BitVec.ofNat 32 f))) (Ideal.ofBits .f32 0x42000000#32))

/-- Position `s` of an image of 64 columns: its row for the first half of a head, its column for the second. -/
def place (s : ℕ) (a : Fin 2) : ℕ := if a.val = 0 then s / 64 else s % 64

end RowMath
-- ==== Proof.FrontRow.lean ====
module

public import proofs.«01_k».proof.Proof.HeadMath
public import proofs.«01_k».proof.Proof.Gen.FrontIdeal.Value

/-! The values the first call's body computes from its blocks, one entry at a time. -/

@[expose] public section

set_option maxRecDepth 16384

noncomputable section

namespace FrontHand

open Cert.FrontIdeal Cert.FrontIdeal.Gen Idealize.ShloMosaic Idealize.ShloMosaic.TcCoe Idealize.SL.Sem RowMath

theorem pay6_at (v0 : Vec Ideal S256x1024 .f32) (v2 : Vec Ideal S1x1024 .f32) (v17 : Vec Ideal S1024x5632 .bf16) (v32 : Vec Ideal S2816x1024 .bf16)
    (r : Fin 256) (j : Fin 1024) :
    k0_pay6 (F := Ideal) v0 v2 v17 v32 (ix2 r j)
      = half (fun k => v0 (ix2 r k)) (fun k => v2 (ix2 0 k)) (fun i k => v17 (ix2 i k)) (fun i k => v32 (ix2 i k)) j := by
  unfold half lin hid rms sg
  pointwise [k0_pay6]
  simp only [zero_sub]

theorem pay7_at (v37 : FVec Ideal S256x1024 .f32) (v39 : Vec Ideal S1x1024 .f32) (r : Fin 256) (j : Fin 1024) :
    k0_pay7 (F := Ideal) v37 v39 (ix2 r j) = rms (fun k => v37 (ix2 r k)) (fun k => v39 (ix2 0 k)) j := by
  unfold rms
  pointwise [k0_pay7]

theorem pay8_at (v37 : FVec Ideal S256x1024 .f32) (v39 : Vec Ideal S1x1024 .f32) (v54 : Vec Ideal S1408x1024 .bf16) (e : Fin 1408) (r : Fin 256) :
    k0_pay8 (F := Ideal) v37 v39 v54 (ix2 e r)
      = lin (rms (fun k => v37 (ix2 r k)) (fun k => v39 (ix2 0 k))) (fun k e => v54 (ix2 e k)) e := by
  have h : k0_pay8 (F := Ideal) v37 v39 v54 (ix2 e r) = ∑ k : Fin 1024, v54 (ix2 e k) * k0_pay7 (F := Ideal) v37 v39 (ix2 r k) := by
    unfold k0_pay8
    generalize k0_pay7 (F := Ideal) v37 v39 = y
    pointwise []
  rw [h]
  exact Finset.sum_congr rfl fun k _ => by rw [pay7_at]; exact mul_comm _ _

theorem pay9_at (v37 : FVec Ideal S256x1024 .f32) (v39 : Vec Ideal S1x1024 .f32) (v57 : Vec Ideal S1024x2176 .bf16) (r : Fin 256) (e : Fin 2176) :
    k0_pay9 (F := Ideal) v37 v39 v57 (ix2 r e)
      = lin (rms (fun k => v37 (ix2 r k)) (fun k => v39 (ix2 0 k))) (fun k e => v57 (ix2 k e)) e := by
  have h : k0_pay9 (F := Ideal) v37 v39 v57 (ix2 r e) = ∑ k : Fin 1024, k0_pay7 (F := Ideal) v37 v39 (ix2 r k) * v57 (ix2 k e) := by
    unfold k0_pay9
    generalize k0_pay7 (F := Ideal) v37 v39 = y
    pointwise []
  rw [h]
  exact Finset.sum_congr rfl fun k _ => by rw [pay7_at]

/-- A head's block over its root mean square, feature by feature, times the norm's weight. -/
def normv (z : FVec Ideal S64x256 .f32) (gain : FVec Ideal S64x1 .f32) : FVec Ideal S64x256 .f32 :=
  mulf (mulf z (broadcastTo S64x256 (rsqrt (addf (divf (shapeCast S1x256
      (multiReduction .add [0] S256 (mulf z z) 0x00000000#32 reduces_S64x256_S256 (.inl rfl) rfl) shapeCasts_S256_S1x256)
      (broadcast S1x256 (Scalar.ofBits .f32 0x42800000#32))) (broadcast S1x256 (Scalar.ofBits .f32 0x358637BD#32)))) broadcasts_S1x256_S64x256))
    (broadcastTo S64x256 gain broadcasts_S64x1_S64x256)

/-- A head's block turned by the table. -/
def turnv (z cs : FVec Ideal S64x256 .f32) : FVec Ideal S64x256 .f32 :=
  concatenate S64x256 0
    [⟨S16x256, subf (mulf (extractStridedSlice S16x256 ![0, 0] z slices_S64x256_o0_0_S16x256) (extractStridedSlice S16x256 ![0, 0] cs slices_S64x256_o0_0_S16x256))
        (mulf (extractStridedSlice S16x256 ![16, 0] z slices_S64x256_o16_0_S16x256) (extractStridedSlice S16x256 ![16, 0] cs slices_S64x256_o16_0_S16x256))⟩,
      ⟨S16x256, addf (mulf (extractStridedSlice S16x256 ![16, 0] z slices_S64x256_o16_0_S16x256) (extractStridedSlice S16x256 ![0, 0] cs slices_S64x256_o0_0_S16x256))
        (mulf (extractStridedSlice S16x256 ![0, 0] z slices_S64x256_o0_0_S16x256) (extractStridedSlice S16x256 ![16, 0] cs slices_S64x256_o16_0_S16x256))⟩,
      ⟨S16x256, subf (mulf (extractStridedSlice S16x256 ![32, 0] z slices_S64x256_o32_0_S16x256) (extractStridedSlice S16x256 ![32, 0] cs slices_S64x256_o32_0_S16x256))
        (mulf (extractStridedSlice S16x256 ![48, 0] z slices_S64x256_o48_0_S16x256) (extractStridedSlice S16x256 ![48, 0] cs slices_S64x256_o48_0_S16x256))⟩,
      ⟨S16x256, addf (mulf (extractStridedSlice S16x256 ![48, 0] z slices_S64x256_o48_0_S16x256) (extractStridedSlice S16x256 ![32, 0] cs slices_S64x256_o32_0_S16x256))
        (mulf (extractStridedSlice S16x256 ![32, 0] z slices_S64x256_o32_0_S16x256) (extractStridedSlice S16x256 ![48, 0] cs slices_S64x256_o48_0_S16x256))⟩]
    concatenates_S16x256_S16x256_S16x256_S16x256_S64x256_d0

theorem normv_at (z : FVec Ideal S64x256 .f32) (gain : FVec Ideal S64x1 .f32) (d : Fin 64) (r : Fin 256) :
    normv z gain (ix2 d r) = hnorm (fun d => z (ix2 d r)) (fun d => gain (ix2 d 0)) d := by
  unfold hnorm
  pointwise [normv]

/-- Cosine and sine of pair `f` of half `a` in a column of the table. -/
def cosOf (cs : FVec Ideal S64x256 .f32) (r : Fin 256) (a : Fin 2) (f : Fin 16) : EReal := cs (ix2 ⟨32 * a.val + f.val, by omega⟩ r)
def sinOf (cs : FVec Ideal S64x256 .f32) (r : Fin 256) (a : Fin 2) (f : Fin 16) : EReal := cs (ix2 ⟨32 * a.val + 16 + f.val, by omega⟩ r)

theorem turnv_at (z cs : FVec Ideal S64x256 .f32) (d : Fin 64) (r : Fin 256) :
    turnv z cs (ix2 d r) = turn (fun d => z (ix2 d r)) (cosOf cs r) (sinOf cs r) d := by
  have hd := d.isLt
  pointwise [turnv]
  unfold turn cosOf sinOf
  rcases (by omega : d.val < 16 ∨ (16 ≤ d.val ∧ d.val < 32) ∨ (32 ≤ d.val ∧ d.val < 48) ∨ 48 ≤ d.val) with h | h | h | h
  · repeat (first | rw [dif_pos (by omega)] | rw [dif_neg (by omega)])
    exact congrArg₂ (· - ·)
      (congrArg₂ (· * ·) (congrArg (fun i => z (ix2 i r)) (Fin.ext (by dsimp only; omega))) (congrArg (fun i => cs (ix2 i r)) (Fin.ext (by dsimp only; omega))))
      (congrArg₂ (· * ·) (congrArg (fun i => z (ix2 i r)) (Fin.ext (by dsimp only; omega))) (congrArg (fun i => cs (ix2 i r)) (Fin.ext (by dsimp only; omega))))
  · repeat (first | rw [dif_pos (by omega)] | rw [dif_neg (by omega)])
    exact congrArg₂ (· + ·)
      (congrArg₂ (· * ·) (congrArg (fun i => z (ix2 i r)) (Fin.ext (by dsimp only; omega))) (congrArg (fun i => cs (ix2 i r)) (Fin.ext (by dsimp only; omega))))
      (congrArg₂ (· * ·) (congrArg (fun i => z (ix2 i r)) (Fin.ext (by dsimp only; omega))) (congrArg (fun i => cs (ix2 i r)) (Fin.ext (by dsimp only; omega))))
  · repeat (first | rw [dif_pos (by omega)] | rw [dif_neg (by omega)])
    exact congrArg₂ (· - ·)
      (congrArg₂ (· * ·) (congrArg (fun i => z (ix2 i r)) (Fin.ext (by dsimp only; omega))) (congrArg (fun i => cs (ix2 i r)) (Fin.ext (by dsimp only; omega))))
      (congrArg₂ (· * ·) (congrArg (fun i => z (ix2 i r)) (Fin.ext (by dsimp only; omega))) (congrArg (fun i => cs (ix2 i r)) (Fin.ext (by dsimp only; omega))))
  · repeat (first | rw [dif_pos (by omega)] | rw [dif_neg (by omega)])
    exact congrArg₂ (· + ·)
      (congrArg₂ (· * ·) (congrArg (fun i => z (ix2 i r)) (Fin.ext (by dsimp only; omega))) (congrArg (fun i => cs (ix2 i r)) (Fin.ext (by dsimp only; omega))))
      (congrArg₂ (· * ·) (congrArg (fun i => z (ix2 i r)) (Fin.ext (by dsimp only; omega))) (congrArg (fun i => cs (ix2 i r)) (Fin.ext (by dsimp only; omega))))

/-- A head of the queries: 64 features of the projected block from feature `n` on, normed, turned and scaled. -/
def headq (n : ℕ) (hs : S1408x256.Slices ![n, 0] S64x256) (P : FVec Ideal S1408x256 .f32) (cs : FVec Ideal S64x256 .f32) (gain : FVec Ideal S64x1 .f32) :
    FVec Ideal S1x64x256 .bf16 :=
  shapeCast S1x64x256 (truncf .bf16 (mulf (turnv (normv (extractStridedSlice S64x256 ![n, 0] P hs) gain) cs)
    (broadcast S64x256 (Scalar.ofBits .f32 0x3E000000#32))) bitsLt_bf16_f32) shapeCasts_S64x256_S1x64x256

/-- The value of a query feature `e`: its head normed and turned, scaled. -/
def qval (P : FVec Ideal S1408x256 .f32) (cs : FVec Ideal S64x256 .f32) (gain : FVec Ideal S64x1 .f32) (h : Fin 8) (d : Fin 64) (r : Fin 256) : EReal :=
  turn (hnorm (fun d => P (ix2 ⟨h.val * 64 + d.val, by omega⟩ r)) (fun d => gain (ix2 d 0))) (cosOf cs r) (sinOf cs r) d * Ideal.ofBits .f32 0x3E000000#32

theorem headq_at (n : ℕ) (hs : S1408x256.Slices ![n, 0] S64x256) (P : FVec Ideal S1408x256 .f32) (cs : FVec Ideal S64x256 .f32) (gain : FVec Ideal S64x1 .f32)
    (h : Fin 8) (hn : n = h.val * 64) (d : Fin 64) (r : Fin 256) : headq n hs P cs gain (ix3 0 d r) = qval P cs gain h d r := by
  have hz : (fun d => extractStridedSlice S64x256 ![n, 0] P hs (ix2 d r)) = fun d : Fin 64 => P (ix2 ⟨h.val * 64 + d.val, by omega⟩ r) := by
    subst hn
    funext d
    pointwise []
  unfold qval
  have hv : (fun d => normv (extractStridedSlice S64x256 ![n, 0] P hs) gain (ix2 d r))
      = hnorm (fun d => extractStridedSlice S64x256 ![n, 0] P hs (ix2 d r)) (fun d => gain (ix2 d 0)) := funext fun d => normv_at _ gain d r
  rw [← hz, ← hv, ← turnv_at]
  unfold headq
  generalize turnv (normv (extractStridedSlice S64x256 ![n, 0] P hs) gain) cs = y
  pointwise []

theorem qval_of (P : FVec Ideal S1408x256 .f32) (cs : FVec Ideal S64x256 .f32) (gain : FVec Ideal S64x1 .f32) (h h' : Fin 8) (d d' : Fin 64) (r r' : Fin 256)
    (e : h.val * 64 + d.val = h'.val * 64 + d'.val) (er : r.val = r'.val) : qval P cs gain h d r = qval P cs gain h' d' r' := by
  obtain rfl : h = h' := Fin.ext (by omega)
  obtain rfl : d = d' := Fin.ext (by omega)
  obtain rfl : r = r' := Fin.ext er
  rfl

theorem headq_idx (n : ℕ) (hs : S1408x256.Slices ![n, 0] S64x256) (P : FVec Ideal S1408x256 .f32) (cs : FVec Ideal S64x256 .f32) (gain : FVec Ideal S64x1 .f32)
    (h' : Fin 8) (hn : n = h'.val * 64) (h : Fin 8) (d : Fin 64) (r : Fin 256) (x : S1x64x256.Idx)
    (e1 : h.val * 64 + d.val = n + (x 1).val) (e2 : r.val = (x 2).val) : headq n hs P cs gain x = qval P cs gain h d r := by
  have hx : x = ix3 0 ⟨(x 1).val, (x 1).isLt⟩ ⟨(x 2).val, (x 2).isLt⟩ :=
    funext fun a => Fin.ext (by
      match a with
      | ⟨0, _⟩ => have h0 : (x 0).val < 1 := (x 0).isLt; show (x 0).val = 0; omega
      | ⟨1, _⟩ => rfl
      | ⟨2, _⟩ => rfl)
  rw [hx]
  exact (headq_at n hs P cs gain h' hn _ _).trans (qval_of P cs gain _ _ _ _ _ _ (by dsimp only; omega) e2.symm)

/-- The eight stores of the queries, one head each. -/
theorem heads_at (P : FVec Ideal S1408x256 .f32) (cs : FVec Ideal S64x256 .f32) (gain : FVec Ideal S64x1 .f32) (h : Fin 8) (d : Fin 64) (r : Fin 256) :
    View.canon (Val := Elt Ideal) (s := S1x512x256) (e := .bf16) [⟨r0_15, headq 448 slices_S1408x256_o448_0_S64x256 P cs gain⟩, ⟨r0_14, headq 384 slices_S1408x256_o384_0_S64x256 P cs gain⟩, ⟨r0_13, headq 320 slices_S1408x256_o320_0_S64x256 P cs gain⟩, ⟨r0_12, headq 256 slices_S1408x256_o256_0_S64x256 P cs gain⟩, ⟨r0_11, headq 192 slices_S1408x256_o192_0_S64x256 P cs gain⟩, ⟨r0_10, headq 128 slices_S1408x256_o128_0_S64x256 P cs gain⟩, ⟨r0_9, headq 64 slices_S1408x256_o64_0_S64x256 P cs gain⟩, ⟨r0_8, headq 0 slices_S1408x256_o0_0_S64x256 P cs gain⟩]
      (ix3 0 ⟨h.val * 64 + d.val, by omega⟩ r) = qval P cs gain h d r := by
  canon_tiles x hx
  · exact headq_idx 448 _ P cs gain 7 rfl h d r x hx1 hx2
  · exact headq_idx 384 _ P cs gain 6 rfl h d r x hx1 hx2
  · exact headq_idx 320 _ P cs gain 5 rfl h d r x hx1 hx2
  · exact headq_idx 256 _ P cs gain 4 rfl h d r x hx1 hx2
  · exact headq_idx 192 _ P cs gain 3 rfl h d r x hx1 hx2
  · exact headq_idx 128 _ P cs gain 2 rfl h d r x hx1 hx2
  · exact headq_idx 64 _ P cs gain 1 rfl h d r x hx1 hx2
  · exact headq_idx 0 _ P cs gain 0 rfl h d r x (hx1.trans (Nat.zero_add _).symm) hx2

theorem hz2 : (![0, 0] : Fin 2 → Nat) = fun _ => 0 := funext fun a => by fin_cases a <;> rfl
theorem hz3 : (![0, 0, 0] : Fin 3 → Nat) = fun _ => 0 := funext fun a => by fin_cases a <;> rfl

section out

variable (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32)

theorem p58 : k0_pay58 (F := Ideal) x0 x1 x2 x3 x4 x5 x6 x7 x8 x9 = k0_pay6 x0 x1 x2 x3 := by
  unfold k0_pay58
  rw [View.ld_unit_zero (S := S256x1024) hz2, View.ld_unit_zero (S := S1x1024) hz2, View.ld_unit_zero (S := S1024x5632) hz2, View.ld_unit_zero (S := S2816x1024) hz2]

theorem p59 : k0_pay59 (F := Ideal) x0 x1 x2 x3 x4 x5 x6 x7 x8 x9 = k0_pay8 (k0_pay6 x0 x1 x2 x3) x4 x5 := by
  unfold k0_pay59
  rw [p58, View.ld_unit_zero (S := S1x1024) hz2, View.ld_unit_zero (S := S1408x1024) hz2]

theorem p60 : k0_pay60 (F := Ideal) x0 x1 x2 x3 x4 x5 x6 x7 x8 x9 = k0_pay9 (k0_pay6 x0 x1 x2 x3) x4 x6 := by
  unfold k0_pay60
  rw [p58, View.ld_unit_zero (S := S1x1024) hz2, View.ld_unit_zero (S := S1024x2176) hz2]

theorem p61 : k0_pay61 (F := Ideal) x0 x1 x2 x3 x4 x5 x6 x7 x8 x9 = k0_pay10 x9 := by
  unfold k0_pay61
  rw [View.ld_unit_zero (S := S64x256) hz2]

theorem p62 : k0_pay62 (F := Ideal) x0 x1 x2 x3 x4 x5 x6 x7 x8 x9 = k0_pay11 x7 := by
  unfold k0_pay62
  rw [View.ld_unit_zero (S := S64x1) hz2]

theorem p63 : k0_pay63 (F := Ideal) x0 x1 x2 x3 x4 x5 x6 x7 x8 x9 = k0_pay12 x8 := by
  unfold k0_pay63
  rw [View.ld_unit_zero (S := S64x1) hz2]

theorem p13 : k0_pay13 (F := Ideal) (k0_pay6 x0 x1 x2 x3) x4 x5 x7
    = normv (extractStridedSlice S64x256 ![0, 0] (k0_pay8 (k0_pay6 x0 x1 x2 x3) x4 x5) slices_S1408x256_o0_0_S64x256) (k0_pay11 x7) := rfl

theorem id10 (x : Vec Ideal S64x256 .f32) : k0_pay10 (F := Ideal) x = x := by
  funext i
  obtain ⟨a, b, rfl⟩ : ∃ a b, i = ix2 a b := ⟨i 0, i 1, funext fun k => match k with | ⟨0, _⟩ => rfl | ⟨1, _⟩ => rfl⟩
  pointwise [k0_pay10]

theorem id11 (x : Vec Ideal S64x1 .f32) : k0_pay11 (F := Ideal) x = x := by
  funext i
  obtain ⟨a, b, rfl⟩ : ∃ a b, i = ix2 a b := ⟨i 0, i 1, funext fun k => match k with | ⟨0, _⟩ => rfl | ⟨1, _⟩ => rfl⟩
  pointwise [k0_pay11]

theorem id12 (x : Vec Ideal S64x1 .f32) : k0_pay12 (F := Ideal) x = x := id11 x

end out

theorem head0_eq (P : FVec Ideal S1408x256 .f32) (C : FVec Ideal S64x256 .f32) (G : FVec Ideal S64x1 .f32) :
    k0_pay14 (F := Ideal) C (normv (extractStridedSlice S64x256 ![0, 0] P slices_S1408x256_o0_0_S64x256) G) = headq 0 slices_S1408x256_o0_0_S64x256 P C G := rfl

theorem head1_eq (P : FVec Ideal S1408x256 .f32) (C : FVec Ideal S64x256 .f32) (G : FVec Ideal S64x1 .f32) :
    k0_pay26 (F := Ideal) (k0_pay17 C) (k0_pay18 C) (k0_pay19 C) (k0_pay20 P G) (k0_pay22 P G) (k0_pay23 P G) (k0_pay24 P C G) (k0_pay25 P C G) = headq 64 slices_S1408x256_o64_0_S64x256 P C G := rfl

theorem head2_eq (P : FVec Ideal S1408x256 .f32) (C : FVec Ideal S64x256 .f32) (G : FVec Ideal S64x1 .f32) :
    k0_pay28 (F := Ideal) (k0_pay27 P C G) = headq 128 slices_S1408x256_o128_0_S64x256 P C G := rfl

theorem head3_eq (P : FVec Ideal S1408x256 .f32) (C : FVec Ideal S64x256 .f32) (G : FVec Ideal S64x1 .f32) :
    k0_pay29 (F := Ideal) P C G = headq 192 slices_S1408x256_o192_0_S64x256 P C G := rfl

theorem head4_eq (P : FVec Ideal S1408x256 .f32) (C : FVec Ideal S64x256 .f32) (G : FVec Ideal S64x1 .f32) :
    k0_pay32 (F := Ideal) C G (k0_pay30 P) (k0_pay31 P) = headq 256 slices_S1408x256_o256_0_S64x256 P C G := rfl

theorem head5_eq (P : FVec Ideal S1408x256 .f32) (C : FVec Ideal S64x256 .f32) (G : FVec Ideal S64x1 .f32) :
    k0_pay34 (F := Ideal) C (k0_pay33 P G) = headq 320 slices_S1408x256_o320_0_S64x256 P C G := rfl

theorem head6_eq (P : FVec Ideal S1408x256 .f32) (C : FVec Ideal S64x256 .f32) (G : FVec Ideal S64x1 .f32) :
    k0_pay46 (F := Ideal) (k0_pay37 C) (k0_pay38 C) (k0_pay39 C) (k0_pay40 P G) (k0_pay42 P G) (k0_pay43 P G) (k0_pay44 P C G) (k0_pay45 P C G) = headq 384 slices_S1408x256_o384_0_S64x256 P C G := rfl

theorem head7_eq (P : FVec Ideal S1408x256 .f32) (C : FVec Ideal S64x256 .f32) (G : FVec Ideal S64x1 .f32) :
    k0_pay48 (F := Ideal) (k0_pay47 P C G) = headq 448 slices_S1408x256_o448_0_S64x256 P C G := rfl

theorem out11_at (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32) (h : Fin 8) (d : Fin 64) (r : Fin 256) :
    out0_11 (F := Ideal) x0 x1 x2 x3 x4 x5 x6 x7 x8 x9 (ix3 0 ⟨h.val * 64 + d.val, by omega⟩ r) = qval (k0_pay8 (k0_pay6 x0 x1 x2 x3) x4 x5) x9 x7 h d r := by
  rw [← heads_at]
  unfold out0_11
  rw [p59, p61, p62, p58, View.ld_unit_zero (S := S1x1024) hz2, View.ld_unit_zero (S := S1408x1024) hz2, View.ld_unit_zero (S := S64x1) hz2, p13, id10, id11]
  generalize k0_pay8 (F := Ideal) (k0_pay6 x0 x1 x2 x3) x4 x5 = P
  rw [head0_eq, head1_eq, head2_eq, head3_eq, head4_eq, head5_eq, head6_eq, head7_eq]

/-! ## The other windows -/

theorem out10_eq (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32) : out0_10 (F := Ideal) x0 x1 x2 x3 x4 x5 x6 x7 x8 x9 = k0_pay6 x0 x1 x2 x3 := by
  unfold out0_10
  rw [View.ld_unit_zero (S := S256x1024) hz2, View.ld_unit_zero (S := S1x1024) hz2, View.ld_unit_zero (S := S1024x5632) hz2, View.ld_unit_zero (S := S2816x1024) hz2]
  exact View.canon_unit_zero hz2 _ _

/-- The two key heads. -/
def keysv (P : FVec Ideal S1408x256 .f32) (C : FVec Ideal S64x256 .f32) (G : FVec Ideal S64x1 .f32) : FVec Ideal S1x256x128 .bf16 :=
  shapeCast S1x256x128 (truncf .bf16 (transpose S256x128 [1, 0] (concatenate S128x256 0
    [⟨S64x256, turnv (normv (extractStridedSlice S64x256 ![512, 0] P slices_S1408x256_o512_0_S64x256) G) C⟩,
      ⟨S64x256, turnv (normv (extractStridedSlice S64x256 ![576, 0] P slices_S1408x256_o576_0_S64x256) G) C⟩]
    concatenates_S64x256_S64x256_S128x256_d0) transposes_S128x256_p1_0_S256x128) bitsLt_bf16_f32) shapeCasts_S256x128_S1x256x128

theorem keys_eq (P : FVec Ideal S1408x256 .f32) (C : FVec Ideal S64x256 .f32) (G : FVec Ideal S64x1 .f32) :
    k0_pay52 (F := Ideal) C (k0_pay49 P C G) (k0_pay50 P) (k0_pay51 G) = keysv P C G := rfl

/-- The value of a key feature. -/
def kval (P : FVec Ideal S1408x256 .f32) (cs : FVec Ideal S64x256 .f32) (gain : FVec Ideal S64x1 .f32) (h : Fin 2) (d : Fin 64) (r : Fin 256) : EReal :=
  turn (hnorm (fun d => P (ix2 ⟨512 + (h.val * 64 + d.val), by omega⟩ r)) (fun d => gain (ix2 d 0))) (cosOf cs r) (sinOf cs r) d

theorem keyhead_at (P : FVec Ideal S1408x256 .f32) (C : FVec Ideal S64x256 .f32) (G : FVec Ideal S64x1 .f32) (n : ℕ) (hs : S1408x256.Slices ![n, 0] S64x256)
    (h : Fin 2) (hn : n = 512 + h.val * 64) (d : Fin 64) (r : Fin 256) :
    turnv (normv (extractStridedSlice S64x256 ![n, 0] P hs) G) C (ix2 d r) = kval P C G h d r := by
  have hz : (fun d => extractStridedSlice S64x256 ![n, 0] P hs (ix2 d r)) = fun d : Fin 64 => P (ix2 ⟨512 + (h.val * 64 + d.val), by omega⟩ r) := by
    subst hn
    funext d
    pointwise []
    exact congrArg (fun i => P (ix2 i r)) (Fin.ext (by dsimp only; omega))
  have hv : (fun d => normv (extractStridedSlice S64x256 ![n, 0] P hs) G (ix2 d r))
      = hnorm (fun d => extractStridedSlice S64x256 ![n, 0] P hs (ix2 d r)) (fun d => G (ix2 d 0)) := funext fun d => normv_at _ G d r
  unfold kval
  rw [← hz, ← hv, ← turnv_at]

theorem keys_at (P : FVec Ideal S1408x256 .f32) (C : FVec Ideal S64x256 .f32) (G : FVec Ideal S64x1 .f32) (h : Fin 2) (d : Fin 64) (r : Fin 256) :
    keysv P C G (ix3 0 r ⟨h.val * 64 + d.val, by omega⟩) = kval P C G h d r := by
  match h with
  | 0 =>
    rw [← keyhead_at P C G 512 slices_S1408x256_o512_0_S64x256 0 rfl d r]
    unfold keysv
    generalize turnv (normv (extractStridedSlice S64x256 ![512, 0] P slices_S1408x256_o512_0_S64x256) G) C = y
    generalize turnv (normv (extractStridedSlice S64x256 ![576, 0] P slices_S1408x256_o576_0_S64x256) G) C = z
    have hd := d.isLt
    pointwise []
  | 1 =>
    rw [← keyhead_at P C G 576 slices_S1408x256_o576_0_S64x256 1 rfl d r]
    unfold keysv
    generalize turnv (normv (extractStridedSlice S64x256 ![512, 0] P slices_S1408x256_o512_0_S64x256) G) C = y
    generalize turnv (normv (extractStridedSlice S64x256 ![576, 0] P slices_S1408x256_o576_0_S64x256) G) C = z
    have hd := d.isLt
    pointwise []

theorem out12_at (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32) (h : Fin 2) (d : Fin 64) (r : Fin 256) :
    out0_12 (F := Ideal) x0 x1 x2 x3 x4 x5 x6 x7 x8 x9 (ix3 0 r ⟨h.val * 64 + d.val, by omega⟩) = kval (k0_pay8 (k0_pay6 x0 x1 x2 x3) x4 x5) x9 x8 h d r := by
  unfold out0_12
  rw [p59, p61, p63, id10, id12, keys_eq, ← keys_at]
  exact congrFun (View.canon_unit_zero hz3 _ _) _

theorem pay54_at (P : FVec Ideal S1408x256 .f32) (e : Fin 512) (r : Fin 256) :
    k0_pay54 (F := Ideal) P (ix3 0 e r) = P (ix2 ⟨768 + e.val, by omega⟩ r) * Ideal.ofBits .f32 0x3E000000#32 := by
  pointwise [k0_pay54]

theorem out14_at (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32) (e : Fin 512) (r : Fin 256) :
    out0_14 (F := Ideal) x0 x1 x2 x3 x4 x5 x6 x7 x8 x9 (ix3 0 e r) = k0_pay8 (F := Ideal) (k0_pay6 x0 x1 x2 x3) x4 x5 (ix2 ⟨768 + e.val, by omega⟩ r) * Ideal.ofBits .f32 0x3E000000#32 := by
  unfold out0_14
  rw [p59, ← pay54_at]
  exact congrFun (View.canon_unit_zero hz3 _ _) _

theorem pay4_at (P : FVec Ideal S256x2176 .f32) (r : Fin 256) (e : Fin 128) : k0_pay4 (F := Ideal) P (ix3 0 r e) = P (ix2 r ⟨e.val, by omega⟩) := by
  pointwise [k0_pay4]

theorem out15_at (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32) (r : Fin 256) (e : Fin 128) :
    out0_15 (F := Ideal) x0 x1 x2 x3 x4 x5 x6 x7 x8 x9 (ix3 0 r e) = k0_pay9 (F := Ideal) (k0_pay6 x0 x1 x2 x3) x4 x6 (ix2 r ⟨e.val, by omega⟩) := by
  unfold out0_15
  rw [p60]
  exact (congrFun (View.canon_unit_zero hz3 _ _) _).trans (pay4_at _ r e)

theorem pay5_at (P : FVec Ideal S256x2176 .f32) (r : Fin 256) (e : Fin 2048) : k0_pay5 (F := Ideal) P (ix2 r e) = P (ix2 r ⟨128 + e.val, by omega⟩) := by
  pointwise [k0_pay5]

theorem out17_at (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32) (r : Fin 256) (e : Fin 2048) :
    out0_17 (F := Ideal) x0 x1 x2 x3 x4 x5 x6 x7 x8 x9 (ix2 r e) = k0_pay9 (F := Ideal) (k0_pay6 x0 x1 x2 x3) x4 x6 (ix2 r ⟨128 + e.val, by omega⟩) := by
  unfold out0_17
  rw [p60]
  exact (congrFun (View.canon_unit_zero hz2 _ _) _).trans (pay5_at _ r e)

theorem val13_lo (P : FVec Ideal S1408x256 .f32) (x : S1x1x128x128.Idx) :
    k0_pay56 (F := Ideal) P x = P (ix2 ⟨640 + (x 2).val, by have : (x 2).val < 128 := (x 2).isLt; omega⟩ ⟨(x 3).val, by have : (x 3).val < 128 := (x 3).isLt; omega⟩) := by
  obtain ⟨e, p, rfl⟩ : ∃ (e p : Fin 128), x = ix4 0 0 e p := ⟨x 2, x 3, funext fun a => Fin.ext (by
    match a with
    | ⟨0, _⟩ => have h0 : (x 0).val < 1 := (x 0).isLt; show (x 0).val = 0; omega
    | ⟨1, _⟩ => have h0 : (x 1).val < 1 := (x 1).isLt; show (x 1).val = 0; omega
    | ⟨2, _⟩ => rfl
    | ⟨3, _⟩ => rfl)⟩
  pointwise [k0_pay56, k0_pay53]

theorem val13_hi (P : FVec Ideal S1408x256 .f32) (x : S1x1x128x128.Idx) :
    k0_pay2 (F := Ideal) (k0_pay53 P) x = P (ix2 ⟨640 + (x 2).val, by have : (x 2).val < 128 := (x 2).isLt; omega⟩ ⟨128 + (x 3).val, by have : (x 3).val < 128 := (x 3).isLt; omega⟩) := by
  obtain ⟨e, p, rfl⟩ : ∃ (e p : Fin 128), x = ix4 0 0 e p := ⟨x 2, x 3, funext fun a => Fin.ext (by
    match a with
    | ⟨0, _⟩ => have h0 : (x 0).val < 1 := (x 0).isLt; show (x 0).val = 0; omega
    | ⟨1, _⟩ => have h0 : (x 1).val < 1 := (x 1).isLt; show (x 1).val = 0; omega
    | ⟨2, _⟩ => rfl
    | ⟨3, _⟩ => rfl)⟩
  pointwise [k0_pay2, k0_pay53]

theorem canon13_at (P : FVec Ideal S1408x256 .f32) (u : Fin 2) (e p : Fin 128) :
    View.canon (Val := Elt Ideal) (s := S1x2x128x128) (e := .bf16) [⟨r0_19, k0_pay2 (k0_pay53 P)⟩, ⟨r0_18, k0_pay56 P⟩] (ix4 0 u e p)
      = P (ix2 ⟨640 + e.val, by omega⟩ ⟨u.val * 128 + p.val, by omega⟩) := by
  canon_tiles x hx
  · refine (val13_hi P x).trans (congrArg P ?_)
    have h1 : u.val = 1 + (x 1).val := hx1
    have h2 : e.val = (x 2).val := hx2
    have h3 : p.val = (x 3).val := hx3
    exact congrArg₂ ix2 (Fin.ext (by dsimp only; omega)) (Fin.ext (by dsimp only; omega))
  · refine (val13_lo P x).trans (congrArg P ?_)
    have h1 : u.val = (x 1).val := hx1
    have h2 : e.val = (x 2).val := hx2
    have h3 : p.val = (x 3).val := hx3
    exact congrArg₂ ix2 (Fin.ext (by dsimp only; omega)) (Fin.ext (by dsimp only; omega))

theorem out13_at (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32) (u : Fin 2) (e p : Fin 128) :
    out0_13 (F := Ideal) x0 x1 x2 x3 x4 x5 x6 x7 x8 x9 (ix4 0 u e p)
      = k0_pay8 (F := Ideal) (k0_pay6 x0 x1 x2 x3) x4 x5 (ix2 ⟨640 + e.val, by omega⟩ ⟨u.val * 128 + p.val, by omega⟩) := by
  unfold out0_13
  rw [p59]
  exact canon13_at _ u e p

theorem val16_lo (P : FVec Ideal S1408x256 .f32) (x : S1x1x128x128.Idx) :
    k0_pay1 (F := Ideal) (k0_pay57 P) x = P (ix2 ⟨1280 + (x 2).val, by have : (x 2).val < 128 := (x 2).isLt; omega⟩ ⟨(x 3).val, by have : (x 3).val < 128 := (x 3).isLt; omega⟩) := by
  obtain ⟨e, p, rfl⟩ : ∃ (e p : Fin 128), x = ix4 0 0 e p := ⟨x 2, x 3, funext fun a => Fin.ext (by
    match a with
    | ⟨0, _⟩ => have h0 : (x 0).val < 1 := (x 0).isLt; show (x 0).val = 0; omega
    | ⟨1, _⟩ => have h0 : (x 1).val < 1 := (x 1).isLt; show (x 1).val = 0; omega
    | ⟨2, _⟩ => rfl
    | ⟨3, _⟩ => rfl)⟩
  pointwise [k0_pay1, k0_pay57, k0_pay55]

theorem val16_hi (P : FVec Ideal S1408x256 .f32) (x : S1x1x128x128.Idx) :
    k0_pay3 (F := Ideal) (k0_pay55 P) x = P (ix2 ⟨1280 + (x 2).val, by have : (x 2).val < 128 := (x 2).isLt; omega⟩ ⟨128 + (x 3).val, by have : (x 3).val < 128 := (x 3).isLt; omega⟩) := by
  obtain ⟨e, p, rfl⟩ : ∃ (e p : Fin 128), x = ix4 0 0 e p := ⟨x 2, x 3, funext fun a => Fin.ext (by
    match a with
    | ⟨0, _⟩ => have h0 : (x 0).val < 1 := (x 0).isLt; show (x 0).val = 0; omega
    | ⟨1, _⟩ => have h0 : (x 1).val < 1 := (x 1).isLt; show (x 1).val = 0; omega
    | ⟨2, _⟩ => rfl
    | ⟨3, _⟩ => rfl)⟩
  pointwise [k0_pay3, k0_pay55]

theorem canon16_at (P : FVec Ideal S1408x256 .f32) (u : Fin 2) (e p : Fin 128) :
    View.canon (Val := Elt Ideal) (s := S1x2x128x128) (e := .bf16) [⟨r0_19, k0_pay3 (k0_pay55 P)⟩, ⟨r0_18, k0_pay1 (k0_pay57 P)⟩] (ix4 0 u e p)
      = P (ix2 ⟨1280 + e.val, by omega⟩ ⟨u.val * 128 + p.val, by omega⟩) := by
  canon_tiles x hx
  · refine (val16_hi P x).trans (congrArg P ?_)
    have h1 : u.val = 1 + (x 1).val := hx1
    have h2 : e.val = (x 2).val := hx2
    have h3 : p.val = (x 3).val := hx3
    exact congrArg₂ ix2 (Fin.ext (by dsimp only; omega)) (Fin.ext (by dsimp only; omega))
  · refine (val16_lo P x).trans (congrArg P ?_)
    have h1 : u.val = (x 1).val := hx1
    have h2 : e.val = (x 2).val := hx2
    have h3 : p.val = (x 3).val := hx3
    exact congrArg₂ ix2 (Fin.ext (by dsimp only; omega)) (Fin.ext (by dsimp only; omega))

theorem out16_at (x0 : Vec Ideal S256x1024 .f32) (x1 : Vec Ideal S1x1024 .f32) (x2 : Vec Ideal S1024x5632 .bf16) (x3 : Vec Ideal S2816x1024 .bf16) (x4 : Vec Ideal S1x1024 .f32) (x5 : Vec Ideal S1408x1024 .bf16) (x6 : Vec Ideal S1024x2176 .bf16) (x7 x8 : Vec Ideal S64x1 .f32) (x9 : Vec Ideal S64x256 .f32) (u : Fin 2) (e p : Fin 128) :
    out0_16 (F := Ideal) x0 x1 x2 x3 x4 x5 x6 x7 x8 x9 (ix4 0 u e p)
      = k0_pay8 (F := Ideal) (k0_pay6 x0 x1 x2 x3) x4 x5 (ix2 ⟨1280 + e.val, by omega⟩ ⟨u.val * 128 + p.val, by omega⟩) := by
  unfold out0_16
  rw [p59]
  exact canon16_at _ u e p

end FrontHand
-- ==== Proof.FrontBlocks.lean ====
module

public import proofs.«01_k».proof.Proof.FrontRow
public import Idealize.ShloMosaic.Lib.Pipeline.ReadBack
public import Idealize.ShloMosaic.Lib.StableHlo.RunRead

/-! What the first call's kernel reads at a grid point, in terms of the call's arguments. -/

@[expose] public section

set_option maxRecDepth 16384

noncomputable section

namespace FrontHand

open Cert.FrontIdeal Cert.FrontIdeal.Gen Cert.FrontIdeal.Value Idealize.ShloMosaic Idealize.ShloMosaic.TcCoe Idealize.SL.Sem RowMath

variable (m : (ℓ : Loc nD τ sig) → Buf (Elt Ideal) ℓ)

theorem idx_row : ∀ t : Fin cfg0.N, win0_0.index t = ![t.val, 0] ∧ win0_9.index t = ![0, t.val % 32] :=
  (by decide +kernel : ∀ t : Fin grid0.N, _)

theorem idx_all : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem tlt (t : Fin cfg0.N) : t.val < 128 := lt_of_lt_of_eq t.isLt (by decide)

/-- The batch of grid point `t`'s rows. -/
def bat (t : Fin cfg0.N) : Fin 4 := ⟨t.val / 32, by have := tlt t; omega⟩
/-- The position in the sequence of row `r` of grid point `t`'s block. -/
def pos (t : Fin cfg0.N) (r : Fin 256) : Fin 8192 := ⟨256 * (t.val % 32) + r.val, by omega⟩

theorem ent0 (c : Dev nD) (b : Fin 4) (s : Fin 8192) (j : Fin 1024) :
    V m c main_v65 (ix2 ⟨b.val * 8192 + s.val, by omega⟩ j) = m ((c : Thread nD τ).loc main_arg0) (ix3 b s j) := by
  entry_read
  pointwise []

theorem blk0 (c : Dev nD) (t : Fin cfg0.N) (r : Fin 256) (j : Fin 1024) : iblk m c 0 t (ix2 r j) = m ((c : Thread nD τ).loc main_arg0) (ix3 (bat t) (pos t r) j) :=
  Eq.trans (b := V m c main_v65 (ix2 ⟨(bat t).val * 8192 + (pos t r).val, by omega⟩ j))
    (by unfold bat pos; blk_ext [iblk, idx_row t]) (ent0 m c (bat t) (pos t r) j)

theorem ent1 (c : Dev nD) (j : Fin 1024) : V m c main_v15 (ix2 0 j) = m ((c : Thread nD τ).loc main_arg1) (ix2 0 j) := by
  entry_read
  pointwise []

theorem blk1 (c : Dev nD) (t : Fin cfg0.N) (j : Fin 1024) : iblk m c 1 t (ix2 0 j) = m ((c : Thread nD τ).loc main_arg1) (ix2 0 j) :=
  Eq.trans (b := V m c main_v15 (ix2 0 j)) (by blk_ext [iblk, idx_all t]) (ent1 m c j)

theorem ent2 (c : Dev nD) (i : Fin 1024) (j : Fin 5632) : V m c main_v17 (ix2 i j) = m ((c : Thread nD τ).loc main_arg2) (ix3 0 i j) := by
  entry_read
  pointwise []

theorem blk2 (c : Dev nD) (t : Fin cfg0.N) (i : Fin 1024) (j : Fin 5632) : iblk m c 2 t (ix2 i j) = m ((c : Thread nD τ).loc main_arg2) (ix3 0 i j) :=
  Eq.trans (b := V m c main_v17 (ix2 i j)) (by blk_ext [iblk, idx_all t]) (ent2 m c i j)

theorem ent3 (c : Dev nD) (i : Fin 2816) (j : Fin 1024) : V m c main_v19 (ix2 i j) = m ((c : Thread nD τ).loc main_arg3) (ix3 0 i j) := by
  entry_read
  pointwise []

theorem blk3 (c : Dev nD) (t : Fin cfg0.N) (i : Fin 2816) (j : Fin 1024) : iblk m c 3 t (ix2 i j) = m ((c : Thread nD τ).loc main_arg3) (ix3 0 i j) :=
  Eq.trans (b := V m c main_v19 (ix2 i j)) (by blk_ext [iblk, idx_all t]) (ent3 m c i j)

theorem ent4 (c : Dev nD) (j : Fin 1024) : V m c main_v21 (ix2 0 j) = m ((c : Thread nD τ).loc main_arg4) (ix2 0 j) := by
  entry_read
  pointwise []

theorem blk4 (c : Dev nD) (t : Fin cfg0.N) (j : Fin 1024) : iblk m c 4 t (ix2 0 j) = m ((c : Thread nD τ).loc main_arg4) (ix2 0 j) :=
  Eq.trans (b := V m c main_v21 (ix2 0 j)) (by blk_ext [iblk, idx_all t]) (ent4 m c j)

theorem ent7 (c : Dev nD) (d : Fin 64) : V m c main_v23 (ix2 d 0) = m ((c : Thread nD τ).loc main_arg6) (ix2 0 d) := by
  entry_read
  pointwise []

theorem blk7 (c : Dev nD) (t : Fin cfg0.N) (d : Fin 64) : iblk m c 7 t (ix2 d 0) = m ((c : Thread nD τ).loc main_arg6) (ix2 0 d) :=
  Eq.trans (b := V m c main_v23 (ix2 d 0)) (by blk_ext [iblk, idx_all t]) (ent7 m c d)

theorem ent8 (c : Dev nD) (d : Fin 64) : V m c main_v25 (ix2 d 0) = m ((c : Thread nD τ).loc main_arg7) (ix2 0 d) := by
  entry_read
  pointwise []

theorem blk8 (c : Dev nD) (t : Fin cfg0.N) (d : Fin 64) : iblk m c 8 t (ix2 d 0) = m ((c : Thread nD τ).loc main_arg7) (ix2 0 d) :=
  Eq.trans (b := V m c main_v25 (ix2 d 0)) (by blk_ext [iblk, idx_all t]) (ent8 m c d)

theorem ent5_0 (c : Dev nD) (e : Fin 512) (k : Fin 1024) : V m c main_v11 (ix2 ⟨e.val, by omega⟩ k) = m ((c : Thread nD τ).loc main_arg5) (ix3 0 k ⟨e.val, by omega⟩) := by
  have he := e.isLt
  unfold V
  after_reads_simp
  pointwise []
  after_reads_simp
  repeat rw [StableHlo.launchContents_devRef]
  pointwise []

theorem ent5_1 (c : Dev nD) (e : Fin 128) (k : Fin 1024) : V m c main_v11 (ix2 ⟨512 + e.val, by omega⟩ k) = m ((c : Thread nD τ).loc main_arg5) (ix3 0 k ⟨512 + e.val, by omega⟩) := by
  have he := e.isLt
  unfold V
  after_reads_simp
  pointwise []
  after_reads_simp
  repeat rw [StableHlo.launchContents_devRef]
  pointwise []

theorem ent5_2 (c : Dev nD) (e : Fin 128) (k : Fin 1024) : V m c main_v11 (ix2 ⟨640 + e.val, by omega⟩ k) = m ((c : Thread nD τ).loc main_arg5) (ix3 0 k ⟨640 + e.val, by omega⟩) := by
  have he := e.isLt
  unfold V
  after_reads_simp
  pointwise []
  after_reads_simp
  repeat rw [StableHlo.launchContents_devRef]
  pointwise []
  repeat (first | rw [dif_pos (by omega)] | rw [dif_neg (by omega)])
  exact congrArg _ (congrArg _ (Fin.ext (by show _ = _; dsimp only; omega)))

theorem ent5_3 (c : Dev nD) (e : Fin 512) (k : Fin 1024) : V m c main_v11 (ix2 ⟨768 + e.val, by omega⟩ k) = m ((c : Thread nD τ).loc main_arg5) (ix3 0 k ⟨768 + e.val, by omega⟩) := by
  have he := e.isLt
  unfold V
  after_reads_simp
  pointwise []
  after_reads_simp
  repeat rw [StableHlo.launchContents_devRef]
  pointwise []
  repeat (first | rw [dif_pos (by omega)] | rw [dif_neg (by omega)])
  exact congrArg _ (congrArg _ (Fin.ext (by show _ = _; dsimp only; omega)))

theorem ent5_4 (c : Dev nD) (e : Fin 128) (k : Fin 1024) : V m c main_v11 (ix2 ⟨1280 + e.val, by omega⟩ k) = m ((c : Thread nD τ).loc main_arg5) (ix3 0 k ⟨1408 + e.val, by omega⟩) := by
  have he := e.isLt
  unfold V
  after_reads_simp
  pointwise []
  after_reads_simp
  repeat rw [StableHlo.launchContents_devRef]
  pointwise []
  repeat (first | rw [dif_pos (by omega)] | rw [dif_neg (by omega)])
  exact congrArg _ (congrArg _ (Fin.ext (by show _ = _; dsimp only; omega)))

theorem ent6_0 (c : Dev nD) (k : Fin 1024) (e : Fin 128) : V m c main_v13 (ix2 k ⟨e.val, by omega⟩) = m ((c : Thread nD τ).loc main_arg5) (ix3 0 k ⟨1280 + e.val, by omega⟩) := by
  have he := e.isLt
  unfold V
  after_reads_simp
  pointwise []
  after_reads_simp
  repeat rw [StableHlo.launchContents_devRef]
  pointwise []

theorem ent6_1 (c : Dev nD) (k : Fin 1024) (e : Fin 1024) : V m c main_v13 (ix2 k ⟨128 + e.val, by omega⟩) = m ((c : Thread nD τ).loc main_arg5) (ix3 0 k ⟨1536 + e.val, by omega⟩) := by
  have he := e.isLt
  unfold V
  after_reads_simp
  pointwise []
  after_reads_simp
  repeat rw [StableHlo.launchContents_devRef]
  pointwise []

theorem ent6_2 (c : Dev nD) (k : Fin 1024) (e : Fin 1024) : V m c main_v13 (ix2 k ⟨1152 + e.val, by omega⟩) = m ((c : Thread nD τ).loc main_arg5) (ix3 0 k ⟨2560 + e.val, by omega⟩) := by
  have he := e.isLt
  unfold V
  after_reads_simp
  pointwise []
  after_reads_simp
  repeat rw [StableHlo.launchContents_devRef]
  pointwise []
  repeat (first | rw [dif_pos (by omega)] | rw [dif_neg (by omega)])
  exact congrArg _ (congrArg _ (Fin.ext (by show _ = _; dsimp only; omega)))

theorem ent9_0 (c : Dev nD) (f : Fin 16) (s : Fin 8192) : V m c main_v64 (ix2 ⟨f.val, by omega⟩ s) = Ideal.cos (ang (s.val / 64) f.val) := by
  have hf := f.isLt
  have hs := s.isLt
  unfold ang
  unfold V
  after_reads_simp
  pointwise []
  after_reads_simp
  repeat rw [StableHlo.launchContents_devRef]
  pointwise []
  repeat (first | rw [dif_pos (by omega)] | rw [dif_neg (by omega)])
  after_reads_simp
  pointwise []
  repeat (first | rw [dif_pos (by omega)] | rw [dif_neg (by omega)])

theorem ent9_1 (c : Dev nD) (f : Fin 16) (s : Fin 8192) : V m c main_v64 (ix2 ⟨16 + f.val, by omega⟩ s) = Ideal.sin (ang (s.val / 64) f.val) := by
  have hf := f.isLt
  have hs := s.isLt
  unfold ang
  unfold V
  after_reads_simp
  pointwise []
  after_reads_simp
  repeat rw [StableHlo.launchContents_devRef]
  pointwise []
  repeat (first | rw [dif_pos (by omega)] | rw [dif_neg (by omega)])
  after_reads_simp
  pointwise []
  repeat (first | rw [dif_pos (by omega)] | rw [dif_neg (by omega)])

theorem ent9_2 (c : Dev nD) (f : Fin 16) (s : Fin 8192) : V m c main_v64 (ix2 ⟨32 + f.val, by omega⟩ s) = Ideal.cos (ang (s.val % 64) f.val) := by
  have hf := f.isLt
  have hs := s.isLt
  unfold ang
  unfold V
  after_reads_simp
  pointwise []
  after_reads_simp
  repeat rw [StableHlo.launchContents_devRef]
  pointwise []
  repeat (first | rw [dif_pos (by omega)] | rw [dif_neg (by omega)])
  after_reads_simp
  pointwise []
  repeat (first | rw [dif_pos (by omega)] | rw [dif_neg (by omega)])
  rw [show 32 + f.val - 16 - 16 = f.val by omega]

theorem ent9_3 (c : Dev nD) (f : Fin 16) (s : Fin 8192) : V m c main_v64 (ix2 ⟨48 + f.val, by omega⟩ s) = Ideal.sin (ang (s.val % 64) f.val) := by
  have hf := f.isLt
  have hs := s.isLt
  unfold ang
  unfold V
  after_reads_simp
  pointwise []
  after_reads_simp
  repeat rw [StableHlo.launchContents_devRef]
  pointwise []
  repeat (first | rw [dif_pos (by omega)] | rw [dif_neg (by omega)])
  after_reads_simp
  pointwise []
  repeat (first | rw [dif_pos (by omega)] | rw [dif_neg (by omega)])
  rw [show 48 + f.val - 16 - 16 - 16 = f.val by omega]

end FrontHand
-- ==== Proof.FrontRefRead.lean ====
module

public import proofs.«01_k».proof.Proof.HeadMath
public import proofs.«01_k».proof.Proof.Gen.FrontRefIdeal.Read

/-! The reference of the layer's first part, one token's row at a time. -/

@[expose] public section

set_option maxRecDepth 16384

noncomputable section

namespace FrontRefHand

open Cert.FrontRefIdeal Cert.FrontRefIdeal.Gen Cert.FrontRefIdeal.Read Idealize.ShloMosaic Idealize.ShloMosaic.TcCoe Idealize.SL.Sem RowMath

abbrev T (s : Shape) (e : EltTy) : Type := (⟨s, e⟩ : BufTy).Contents (Elt Ideal)

theorem v16_at (x0 : T S4x8192x1024 .f32) (x1 : T S1x1024 .f32) (x2 : T S1x1024x5632 .f32) (b : Fin 4) (s : Fin 8192) (j : Fin 5632) :
    val_main_v16 (F := Ideal) x0 x1 x2 (ix3 b s j) = lin (rms (fun k => x0 (ix3 b s k)) (fun k => x1 (ix2 0 k))) (fun i k => x2 (ix3 0 i k)) j := by
  unfold lin rms
  pointwise [val_main_v16, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem v20_at (x0 : T S4x8192x1024 .f32) (x1 : T S1x1024 .f32) (x2 : T S1x1024x5632 .f32) (b : Fin 4) (s : Fin 8192) (j : Fin 2816) :
    val_main_v20 (F := Ideal) x0 x1 x2 (ix3 b s j) = hid (fun k => val_main_v16 (F := Ideal) x0 x1 x2 (ix3 b s k)) j := by
  unfold val_main_v20 val_main_v19 val_main_call0_v5 val_main_call0_v3 val_main_call0_v1 val_main_call0_v0 val_main_v18 val_main_v17 hid sg
  generalize val_main_v16 (F := Ideal) x0 x1 x2 = y
  pointwise [val_main_call0_v4, val_main_call0_v2, val_main_call0_cst, val_main_call0_cst_0]

theorem v24_at (x0 : T S4x8192x1024 .f32) (x1 : T S1x1024 .f32) (x2 : T S1x1024x5632 .f32) (x3 : T S1x2816x1024 .f32) (b : Fin 4) (s : Fin 8192) (j : Fin 1024) :
    val_main_v24 (F := Ideal) x0 x1 x2 x3 (ix3 b s j)
      = half (fun k => x0 (ix3 b s k)) (fun k => x1 (ix2 0 k)) (fun i k => x2 (ix3 0 i k)) (fun i k => x3 (ix3 0 i k)) j := by
  unfold half
  rw [← funext (v16_at x0 x1 x2 b s), ← funext (v20_at x0 x1 x2 b s)]
  unfold val_main_v24 val_main_v23 val_main_v21 lin
  generalize val_main_v20 (F := Ideal) x0 x1 x2 = y
  pointwise [val_main_v22, val_main_v15, val_main_cst_2]

theorem v38_at (x0 : T S4x8192x1024 .f32) (x1 : T S1x1024 .f32) (x2 : T S1x1024x5632 .f32) (x3 : T S1x2816x1024 .f32) (x4 : T S1x1024 .f32) (b : Fin 4) (s : Fin 8192) (j : Fin 1024) :
    val_main_v38 (F := Ideal) x0 x1 x2 x3 x4 (ix3 b s j) = rms (fun k => val_main_v24 (F := Ideal) x0 x1 x2 x3 (ix3 b s k)) (fun k => x4 (ix2 0 k)) j := by
  unfold val_main_v38 val_main_v35 val_main_v34 val_main_v33 val_main_v32 val_main_v30 val_main_v28 val_main_v27 val_main_v26 rms
  generalize val_main_v24 (F := Ideal) x0 x1 x2 x3 = y
  pointwise [val_main_v37, val_main_v36, val_main_v31, val_main_v29, val_main_v25, val_main_cst_3, val_main_cst_4, val_main_cst_5]

/-- The projected row. -/
theorem v40_at (x0 : T S4x8192x1024 .f32) (x1 : T S1x1024 .f32) (x2 : T S1x1024x5632 .f32) (x3 : T S1x2816x1024 .f32) (x4 : T S1x1024 .f32) (x5 : T S1x1024x3584 .f32) (b : Fin 4) (s : Fin 8192) (j : Fin 3584) :
    val_main_v40 (F := Ideal) x0 x1 x2 x3 x4 x5 (ix3 b s j)
      = lin (rms (half (fun k => x0 (ix3 b s k)) (fun k => x1 (ix2 0 k)) (fun i k => x2 (ix3 0 i k)) (fun i k => x3 (ix3 0 i k))) (fun k => x4 (ix2 0 k)))
          (fun i k => x5 (ix3 0 i k)) j := by
  rw [← funext (v24_at x0 x1 x2 x3 b s), ← funext (v38_at x0 x1 x2 x3 x4 b s)]
  unfold val_main_v40 lin
  generalize val_main_v38 (F := Ideal) x0 x1 x2 x3 x4 = y
  pointwise [val_main_v39]

theorem v62_at (x0 : T S4x8192x1024 .f32) (x1 : T S1x1024 .f32) (x2 : T S1x1024x5632 .f32) (x3 : T S1x2816x1024 .f32) (x4 : T S1x1024 .f32) (x5 : T S1x1024x3584 .f32) (x6 : T S1x64 .f32) (b : Fin 4) (s : Fin 8192) (h : Fin 8) (d : Fin 64) :
    val_main_v62 (F := Ideal) x0 x1 x2 x3 x4 x5 x6 (ix4 b s h d)
      = hnorm (fun d => val_main_v40 (F := Ideal) x0 x1 x2 x3 x4 x5 (ix3 b s ⟨h.val * 64 + d.val, by omega⟩)) (fun d => x6 (ix2 0 d)) d := by
  unfold val_main_v62 val_main_v59 val_main_v58 val_main_v57 val_main_v56 val_main_v54 val_main_v52 val_main_v51 val_main_v50 val_main_v48 val_main_v41 hnorm
  generalize val_main_v40 (F := Ideal) x0 x1 x2 x3 x4 x5 = y
  pointwise [val_main_v60, val_main_v61, val_main_v53, val_main_v55, val_main_v49, val_main_cst_6, val_main_cst_7, val_main_cst_8]

theorem v124_at (x0 : T S4x8192x1024 .f32) (x1 : T S1x1024 .f32) (x2 : T S1x1024x5632 .f32) (x3 : T S1x2816x1024 .f32) (x4 : T S1x1024 .f32) (x5 : T S1x1024x3584 .f32) (x7 : T S1x64 .f32) (b : Fin 4) (s : Fin 8192) (h : Fin 2) (d : Fin 64) :
    val_main_v124 (F := Ideal) x0 x1 x2 x3 x4 x5 x7 (ix4 b s h d)
      = hnorm (fun d => val_main_v40 (F := Ideal) x0 x1 x2 x3 x4 x5 (ix3 b s ⟨512 + (h.val * 64 + d.val), by omega⟩)) (fun d => x7 (ix2 0 d)) d := by
  unfold val_main_v124 val_main_v121 val_main_v120 val_main_v119 val_main_v118 val_main_v116 val_main_v114 val_main_v113 val_main_v112 val_main_v110 val_main_v42 hnorm
  generalize val_main_v40 (F := Ideal) x0 x1 x2 x3 x4 x5 = y
  pointwise [val_main_v122, val_main_v123, val_main_v115, val_main_v117, val_main_v111, val_main_cst_13, val_main_cst_14, val_main_cst_15]

theorem v109_at (x0 : T S4x8192x1024 .f32) (x1 : T S1x1024 .f32) (x2 : T S1x1024x5632 .f32) (x3 : T S1x2816x1024 .f32) (x4 : T S1x1024 .f32) (x5 : T S1x1024x3584 .f32) (x6 : T S1x64 .f32) (b : Fin 4) (s : Fin 8192) (h : Fin 8) (d : Fin 64) :
    val_main_v109 (F := Ideal) x0 x1 x2 x3 x4 x5 x6 (ix4 b s h d)
      = turn (hnorm (fun d => val_main_v40 (F := Ideal) x0 x1 x2 x3 x4 x5 (ix3 b s ⟨h.val * 64 + d.val, by omega⟩)) (fun d => x6 (ix2 0 d)))
          (fun a f => val_main_v88 (F := Ideal) (ix5 0 s 0 a f)) (fun a f => val_main_v90 (F := Ideal) (ix5 0 s 0 a f)) d := by
  rw [← funext (v62_at x0 x1 x2 x3 x4 x5 x6 b s h)]
  unfold val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 turn
  generalize val_main_v62 (F := Ideal) x0 x1 x2 x3 x4 x5 x6 = y
  generalize val_main_v88 (F := Ideal) = C
  generalize val_main_v90 (F := Ideal) = S
  pointwise []

theorem v171_at (x0 : T S4x8192x1024 .f32) (x1 : T S1x1024 .f32) (x2 : T S1x1024x5632 .f32) (x3 : T S1x2816x1024 .f32) (x4 : T S1x1024 .f32) (x5 : T S1x1024x3584 .f32) (x7 : T S1x64 .f32) (b : Fin 4) (s : Fin 8192) (h : Fin 2) (d : Fin 64) :
    val_main_v171 (F := Ideal) x0 x1 x2 x3 x4 x5 x7 (ix4 b s h d)
      = turn (hnorm (fun d => val_main_v40 (F := Ideal) x0 x1 x2 x3 x4 x5 (ix3 b s ⟨512 + (h.val * 64 + d.val), by omega⟩)) (fun d => x7 (ix2 0 d)))
          (fun a f => val_main_v150 (F := Ideal) (ix5 0 s 0 a f)) (fun a f => val_main_v152 (F := Ideal) (ix5 0 s 0 a f)) d := by
  rw [← funext (v124_at x0 x1 x2 x3 x4 x5 x7 b s h)]
  unfold val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 turn
  generalize val_main_v124 (F := Ideal) x0 x1 x2 x3 x4 x5 x7 = y
  generalize val_main_v150 (F := Ideal) = C
  generalize val_main_v152 (F := Ideal) = S
  pointwise []

theorem key_cos (s : Fin 8192) (a : Fin 2) (f : Fin 16) :
    val_main_v150 (F := Ideal) (ix5 0 s 0 a f) = val_main_v88 (F := Ideal) (ix5 0 s 0 a f) := rfl

theorem key_sin (s : Fin 8192) (a : Fin 2) (f : Fin 16) :
    val_main_v152 (F := Ideal) (ix5 0 s 0 a f) = val_main_v90 (F := Ideal) (ix5 0 s 0 a f) := rfl

theorem cos0 (s : Fin 8192) (f : Fin 16) : val_main_v88 (F := Ideal) (ix5 0 s 0 0 f) = Ideal.cos (ang (s.val / 64) f.val) := by
  have hf := f.isLt
  have hs := s.isLt
  unfold ang
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_cst_9, val_main_cst_10, val_main_cst_11, val_main_cst_12]

theorem cos1 (s : Fin 8192) (f : Fin 16) : val_main_v88 (F := Ideal) (ix5 0 s 0 1 f) = Ideal.cos (ang (s.val % 64) f.val) := by
  have hf := f.isLt
  have hs := s.isLt
  unfold ang
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_cst_9, val_main_cst_10, val_main_cst_11, val_main_cst_12]

theorem cos_at (s : Fin 8192) (a : Fin 2) (f : Fin 16) : val_main_v88 (F := Ideal) (ix5 0 s 0 a f) = Ideal.cos (ang (place s.val a) f.val) := by
  match a with
  | 0 => exact cos0 s f
  | 1 => exact cos1 s f

theorem sin0 (s : Fin 8192) (f : Fin 16) : val_main_v90 (F := Ideal) (ix5 0 s 0 0 f) = Ideal.sin (ang (s.val / 64) f.val) := by
  have hf := f.isLt
  have hs := s.isLt
  unfold ang
  pointwise [val_main_v90, val_main_v89, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_cst_9, val_main_cst_10, val_main_cst_11, val_main_cst_12]

theorem sin1 (s : Fin 8192) (f : Fin 16) : val_main_v90 (F := Ideal) (ix5 0 s 0 1 f) = Ideal.sin (ang (s.val % 64) f.val) := by
  have hf := f.isLt
  have hs := s.isLt
  unfold ang
  pointwise [val_main_v90, val_main_v89, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_cst_9, val_main_cst_10, val_main_cst_11, val_main_cst_12]

theorem sin_at (s : Fin 8192) (a : Fin 2) (f : Fin 16) : val_main_v90 (F := Ideal) (ix5 0 s 0 a f) = Ideal.sin (ang (place s.val a) f.val) := by
  match a with
  | 0 => exact sin0 s f
  | 1 => exact sin1 s f

end FrontRefHand
-- ==== Proof.FrontRefOut.lean ====
module

public import proofs.«01_k».proof.Proof.FrontRefRead

/-! The results of the reference of the layer's first part in terms of its projected row and its turned heads. -/

@[expose] public section

set_option maxRecDepth 16384

noncomputable section

namespace FrontRefHand

open Cert.FrontRefIdeal Cert.FrontRefIdeal.Gen Cert.FrontRefIdeal.Read Idealize.ShloMosaic Idealize.ShloMosaic.TcCoe Idealize.SL.Sem RowMath

/-! ## The results -/

theorem v187_at (x0 : T S4x8192x1024 .f32) (x1 : T S1x1024 .f32) (x2 : T S1x1024x5632 .f32) (x3 : T S1x2816x1024 .f32) (b : Fin 4) (s : Fin 8192) (j : Fin 1024) :
    val_main_v187 (F := Ideal) x0 x1 x2 x3 (ix2 ⟨b.val * 8192 + s.val, by omega⟩ j) = val_main_v24 (F := Ideal) x0 x1 x2 x3 (ix3 b s j) := by
  unfold val_main_v187
  generalize val_main_v24 (F := Ideal) x0 x1 x2 x3 = y
  pointwise []

theorem v176_of (x0 : T S4x8192x1024 .f32) (x1 : T S1x1024 .f32) (x2 : T S1x1024x5632 .f32) (x3 : T S1x2816x1024 .f32) (x4 : T S1x1024 .f32) (x5 : T S1x1024x3584 .f32) (x6 : T S1x64 .f32) (b : Fin 4) (e : Fin 512) (s : Fin 8192) :
    val_main_v176 (F := Ideal) x0 x1 x2 x3 x4 x5 x6 (ix3 b e s) = val_main_v172 (F := Ideal) x0 x1 x2 x3 x4 x5 x6 (ix3 b s e) * Ideal.ofBits .f32 0x3E000000#32 := by
  rw [val_main_v176_apply, val_main_v175_apply, val_main_v174_apply, val_main_v173_apply, val_main_cst_20_apply]
  have hi : idx_main_v175 (ix3 b e s) = ix3 b s e := funext fun a => match a with
    | ⟨0, _⟩ => rfl
    | ⟨1, _⟩ => rfl
    | ⟨2, _⟩ => rfl
  rw [hi]
  generalize val_main_v172 (F := Ideal) x0 x1 x2 x3 x4 x5 x6 (ix3 b s e) = y
  rfl

theorem v172_at (x0 : T S4x8192x1024 .f32) (x1 : T S1x1024 .f32) (x2 : T S1x1024x5632 .f32) (x3 : T S1x2816x1024 .f32) (x4 : T S1x1024 .f32) (x5 : T S1x1024x3584 .f32) (x6 : T S1x64 .f32) (b : Fin 4) (s : Fin 8192) (h : Fin 8) (d : Fin 64) :
    val_main_v172 (F := Ideal) x0 x1 x2 x3 x4 x5 x6 (ix3 b s ⟨h.val * 64 + d.val, by omega⟩) = val_main_v109 (F := Ideal) x0 x1 x2 x3 x4 x5 x6 (ix4 b s h d) := by
  unfold val_main_v172
  generalize val_main_v109 (F := Ideal) x0 x1 x2 x3 x4 x5 x6 = y
  pointwise []

theorem v176_at (x0 : T S4x8192x1024 .f32) (x1 : T S1x1024 .f32) (x2 : T S1x1024x5632 .f32) (x3 : T S1x2816x1024 .f32) (x4 : T S1x1024 .f32) (x5 : T S1x1024x3584 .f32) (x6 : T S1x64 .f32) (b : Fin 4) (h : Fin 8) (d : Fin 64) (s : Fin 8192) :
    val_main_v176 (F := Ideal) x0 x1 x2 x3 x4 x5 x6 (ix3 b ⟨h.val * 64 + d.val, by omega⟩ s)
      = val_main_v109 (F := Ideal) x0 x1 x2 x3 x4 x5 x6 (ix4 b s h d) * Ideal.ofBits .f32 0x3E000000#32 := by
  rw [v176_of, v172_at]

theorem v188_at (x0 : T S4x8192x1024 .f32) (x1 : T S1x1024 .f32) (x2 : T S1x1024x5632 .f32) (x3 : T S1x2816x1024 .f32) (x4 : T S1x1024 .f32) (x5 : T S1x1024x3584 .f32) (x7 : T S1x64 .f32) (b : Fin 4) (s : Fin 8192) (h : Fin 2) (d : Fin 64) :
    val_main_v188 (F := Ideal) x0 x1 x2 x3 x4 x5 x7 (ix3 b s ⟨h.val * 64 + d.val, by omega⟩) = val_main_v171 (F := Ideal) x0 x1 x2 x3 x4 x5 x7 (ix4 b s h d) := by
  unfold val_main_v188
  generalize val_main_v171 (F := Ideal) x0 x1 x2 x3 x4 x5 x7 = y
  pointwise []

theorem v189_at (x0 : T S4x8192x1024 .f32) (x1 : T S1x1024 .f32) (x2 : T S1x1024x5632 .f32) (x3 : T S1x2816x1024 .f32) (x4 : T S1x1024 .f32) (x5 : T S1x1024x3584 .f32) (x7 : T S1x64 .f32) (b : Fin 4) (s : Fin 8192) (h : Fin 2) (d : Fin 64) :
    val_main_v189 (F := Ideal) x0 x1 x2 x3 x4 x5 x7 (ix3 b s ⟨h.val * 64 + d.val, by omega⟩) = val_main_v171 (F := Ideal) x0 x1 x2 x3 x4 x5 x7 (ix4 b s h d) := by
  rw [val_main_v189_apply, ← v188_at]
  generalize val_main_v188 (F := Ideal) x0 x1 x2 x3 x4 x5 x7 _ = y
  rfl

theorem v183_at (x0 : T S4x8192x1024 .f32) (x1 : T S1x1024 .f32) (x2 : T S1x1024x5632 .f32) (x3 : T S1x2816x1024 .f32) (x4 : T S1x1024 .f32) (x5 : T S1x1024x3584 .f32) (b : Fin 4) (c : Fin 64) (e p : Fin 128) :
    val_main_v183 (F := Ideal) x0 x1 x2 x3 x4 x5 (ix4 b c e p) = val_main_v40 (F := Ideal) x0 x1 x2 x3 x4 x5 (ix3 b ⟨c.val * 128 + p.val, by omega⟩ ⟨640 + e.val, by omega⟩) := by
  unfold val_main_v183 val_main_v182 val_main_v181 val_main_v43
  generalize val_main_v40 (F := Ideal) x0 x1 x2 x3 x4 x5 = y
  pointwise []

theorem v186_at (x0 : T S4x8192x1024 .f32) (x1 : T S1x1024 .f32) (x2 : T S1x1024x5632 .f32) (x3 : T S1x2816x1024 .f32) (x4 : T S1x1024 .f32) (x5 : T S1x1024x3584 .f32) (b : Fin 4) (c : Fin 64) (e p : Fin 128) :
    val_main_v186 (F := Ideal) x0 x1 x2 x3 x4 x5 (ix4 b c e p) = val_main_v40 (F := Ideal) x0 x1 x2 x3 x4 x5 (ix3 b ⟨c.val * 128 + p.val, by omega⟩ ⟨1408 + e.val, by omega⟩) := by
  unfold val_main_v186 val_main_v185 val_main_v184 val_main_v46
  generalize val_main_v40 (F := Ideal) x0 x1 x2 x3 x4 x5 = y
  pointwise []

theorem v180_at (x0 : T S4x8192x1024 .f32) (x1 : T S1x1024 .f32) (x2 : T S1x1024x5632 .f32) (x3 : T S1x2816x1024 .f32) (x4 : T S1x1024 .f32) (x5 : T S1x1024x3584 .f32) (b : Fin 4) (e : Fin 512) (s : Fin 8192) :
    val_main_v180 (F := Ideal) x0 x1 x2 x3 x4 x5 (ix3 b e s) = val_main_v40 (F := Ideal) x0 x1 x2 x3 x4 x5 (ix3 b s ⟨768 + e.val, by omega⟩) * Ideal.ofBits .f32 0x3E000000#32 := by
  unfold val_main_v180 val_main_v179 val_main_v178 val_main_v44
  generalize val_main_v40 (F := Ideal) x0 x1 x2 x3 x4 x5 = y
  pointwise [val_main_v177, val_main_cst_21]

theorem v190_at (x0 : T S4x8192x1024 .f32) (x1 : T S1x1024 .f32) (x2 : T S1x1024x5632 .f32) (x3 : T S1x2816x1024 .f32) (x4 : T S1x1024 .f32) (x5 : T S1x1024x3584 .f32) (b : Fin 4) (s : Fin 8192) (e : Fin 128) :
    val_main_v190 (F := Ideal) x0 x1 x2 x3 x4 x5 (ix3 b s e) = val_main_v40 (F := Ideal) x0 x1 x2 x3 x4 x5 (ix3 b s ⟨1280 + e.val, by omega⟩) := by
  unfold val_main_v190 val_main_v45
  generalize val_main_v40 (F := Ideal) x0 x1 x2 x3 x4 x5 = y
  pointwise []

theorem v192_at (x0 : T S4x8192x1024 .f32) (x1 : T S1x1024 .f32) (x2 : T S1x1024x5632 .f32) (x3 : T S1x2816x1024 .f32) (x4 : T S1x1024 .f32) (x5 : T S1x1024x3584 .f32) (b : Fin 4) (s : Fin 8192) (e : Fin 2048) :
    val_main_v192 (F := Ideal) x0 x1 x2 x3 x4 x5 (ix2 ⟨b.val * 8192 + s.val, by omega⟩ e) = val_main_v40 (F := Ideal) x0 x1 x2 x3 x4 x5 (ix3 b s ⟨1536 + e.val, by omega⟩) := by
  unfold val_main_v192 val_main_v191 val_main_v47
  generalize val_main_v40 (F := Ideal) x0 x1 x2 x3 x4 x5 = y
  pointwise []

end FrontRefHand
-- ==== Proof.FrontPoint.lean ====
module

public import proofs.«01_k».proof.Proof.FrontBlocks
public import proofs.«01_k».proof.Proof.FrontRefOut

/-! At every grid point, each entry the first call's kernel writes is the reference's entry at the place the block goes to. -/

@[expose] public section

set_option maxRecDepth 16384

noncomputable section

namespace FrontHand

open Cert.FrontIdeal Cert.FrontIdeal.Gen Cert.FrontIdeal.Value Idealize.ShloMosaic Idealize.ShloMosaic.TcCoe Idealize.SL.Sem RowMath

variable (m : (ℓ : Loc nD τ sig) → Buf (Elt Ideal) ℓ)

theorem blk5 (c : Dev nD) (t : Fin cfg0.N) (e : Fin 1408) (k : Fin 1024) : iblk m c 5 t (ix2 e k) = V m c main_v11 (ix2 e k) := by
  blk_ext [iblk, idx_all t]

theorem blk6 (c : Dev nD) (t : Fin cfg0.N) (k : Fin 1024) (e : Fin 2176) : iblk m c 6 t (ix2 k e) = V m c main_v13 (ix2 k e) := by
  blk_ext [iblk, idx_all t]

theorem blk9 (c : Dev nD) (t : Fin cfg0.N) (e : Fin 64) (r : Fin 256) : iblk m c 9 t (ix2 e r) = V m c main_v64 (ix2 e (pos t r)) := by
  unfold pos
  blk_ext [iblk, idx_row t]

/-- The cosines of grid point `t`'s block are those of the reference at the rows' positions. -/
theorem cos_eq (c : Dev nD) (t : Fin cfg0.N) (r : Fin 256) :
    cosOf (iblk m c 9 t) r = fun a f => Cert.FrontRefIdeal.Read.val_main_v88 (F := Ideal) (ix5 0 (pos t r) 0 a f) := by
  funext a f
  rw [FrontRefHand.cos_at]
  unfold cosOf
  rw [blk9]
  match a with
  | 0 =>
    rw [show (⟨32 * (0 : Fin 2).val + f.val, by omega⟩ : Fin 64) = ⟨f.val, by omega⟩ from Fin.ext (by simp)]
    exact ent9_0 m c f (pos t r)
  | 1 =>
    rw [show (⟨32 * (1 : Fin 2).val + f.val, by omega⟩ : Fin 64) = ⟨32 + f.val, by omega⟩ from Fin.ext (by simp)]
    exact ent9_2 m c f (pos t r)

theorem sin_eq (c : Dev nD) (t : Fin cfg0.N) (r : Fin 256) :
    sinOf (iblk m c 9 t) r = fun a f => Cert.FrontRefIdeal.Read.val_main_v90 (F := Ideal) (ix5 0 (pos t r) 0 a f) := by
  funext a f
  rw [FrontRefHand.sin_at]
  unfold sinOf
  rw [blk9]
  match a with
  | 0 =>
    rw [show (⟨32 * (0 : Fin 2).val + 16 + f.val, by omega⟩ : Fin 64) = ⟨16 + f.val, by omega⟩ from Fin.ext (by simp)]
    exact ent9_1 m c f (pos t r)
  | 1 =>
    rw [show (⟨32 * (1 : Fin 2).val + 16 + f.val, by omega⟩ : Fin 64) = ⟨48 + f.val, by omega⟩ from Fin.ext (by simp)]
    exact ent9_3 m c f (pos t r)

/-- The row after the first half feed-forward layer. -/
theorem p6_at (c : Dev nD) (t : Fin cfg0.N) (r : Fin 256) (j : Fin 1024) :
    k0_pay6 (F := Ideal) (iblk m c 0 t) (iblk m c 1 t) (iblk m c 2 t) (iblk m c 3 t) (ix2 r j) = Cert.FrontRefIdeal.Read.val_main_v24 (F := Ideal) (m ((c : Thread nD τ).loc main_arg0)) (m ((c : Thread nD τ).loc main_arg1)) (m ((c : Thread nD τ).loc main_arg2)) (m ((c : Thread nD τ).loc main_arg3)) (ix3 (bat t) (pos t r) j) := by
  rw [pay6_at, FrontRefHand.v24_at]
  simp only [blk0, blk1, blk2, blk3]

/-- The kernel's transposed projection: its row `e` is column `j` of the reference's, where the weights agree. -/
theorem p8_at (c : Dev nD) (t : Fin cfg0.N) (e : Fin 1408) (r : Fin 256) (j : Fin 3584)
    (hw : ∀ k : Fin 1024, V m c main_v11 (ix2 e k) = m ((c : Thread nD τ).loc main_arg5) (ix3 0 k j)) :
    k0_pay8 (F := Ideal) (k0_pay6 (F := Ideal) (iblk m c 0 t) (iblk m c 1 t) (iblk m c 2 t) (iblk m c 3 t)) (iblk m c 4 t) (iblk m c 5 t) (ix2 e r) = Cert.FrontRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (pos t r) j) := by
  rw [pay8_at, FrontRefHand.v40_at]
  simp only [p6_at, FrontRefHand.v24_at, blk4]
  unfold lin
  simp only [blk5, hw]

/-- The kernel's other projection: its column `e` is column `j` of the reference's, where the weights agree. -/
theorem p9_at (c : Dev nD) (t : Fin cfg0.N) (r : Fin 256) (e : Fin 2176) (j : Fin 3584)
    (hw : ∀ k : Fin 1024, V m c main_v13 (ix2 k e) = m ((c : Thread nD τ).loc main_arg5) (ix3 0 k j)) :
    k0_pay9 (F := Ideal) (k0_pay6 (F := Ideal) (iblk m c 0 t) (iblk m c 1 t) (iblk m c 2 t) (iblk m c 3 t)) (iblk m c 4 t) (iblk m c 6 t) (ix2 r e) = Cert.FrontRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (pos t r) j) := by
  rw [pay9_at, FrontRefHand.v40_at]
  simp only [p6_at, FrontRefHand.v24_at, blk4]
  unfold lin
  simp only [blk6, hw]

theorem point10 (c : Dev nD) (t : Fin cfg0.N) (r : Fin 256) (j : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j) = Cert.FrontRefIdeal.Read.val_main_v187 (F := Ideal) (m ((c : Thread nD τ).loc main_arg0)) (m ((c : Thread nD τ).loc main_arg1)) (m ((c : Thread nD τ).loc main_arg2)) (m ((c : Thread nD τ).loc main_arg3)) (ix2 ⟨(bat t).val * 8192 + (pos t r).val, by omega⟩ j) := by
  rw [out10_eq, FrontRefHand.v187_at]
  exact p6_at m c t r j

theorem point11 (c : Dev nD) (t : Fin cfg0.N) (e : Fin 512) (r : Fin 256) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 e r) = Cert.FrontRefIdeal.Read.val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bat t) e (pos t r)) := by
  obtain ⟨h, d, rfl⟩ : ∃ (h : Fin 8) (d : Fin 64), e = ⟨h.val * 64 + d.val, by omega⟩ :=
    ⟨⟨e.val / 64, by omega⟩, ⟨e.val % 64, by omega⟩, Fin.ext (by show e.val = e.val / 64 * 64 + e.val % 64; omega)⟩
  rw [out11_at, FrontRefHand.v176_at, FrontRefHand.v109_at]
  unfold qval
  rw [cos_eq, sin_eq]
  have hP : ∀ d : Fin 64, k0_pay8 (F := Ideal) (k0_pay6 (F := Ideal) (iblk m c 0 t) (iblk m c 1 t) (iblk m c 2 t) (iblk m c 3 t)) (iblk m c 4 t) (iblk m c 5 t) (ix2 ⟨h.val * 64 + d.val, by omega⟩ r) = Cert.FrontRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (pos t r) ⟨h.val * 64 + d.val, by omega⟩) :=
    fun d => p8_at m c t _ r _ fun k => ent5_0 m c ⟨h.val * 64 + d.val, by omega⟩ k
  simp only [hP, blk7]

theorem point12 (c : Dev nD) (t : Fin cfg0.N) (r : Fin 256) (e : Fin 128) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r e) = Cert.FrontRefIdeal.Read.val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (ix3 (bat t) (pos t r) e) := by
  obtain ⟨h, d, rfl⟩ : ∃ (h : Fin 2) (d : Fin 64), e = ⟨h.val * 64 + d.val, by omega⟩ :=
    ⟨⟨e.val / 64, by omega⟩, ⟨e.val % 64, by omega⟩, Fin.ext (by show e.val = e.val / 64 * 64 + e.val % 64; omega)⟩
  rw [out12_at, FrontRefHand.v189_at, FrontRefHand.v171_at]
  simp only [FrontRefHand.key_cos, FrontRefHand.key_sin]
  unfold kval
  rw [cos_eq, sin_eq]
  have hP : ∀ d : Fin 64, k0_pay8 (F := Ideal) (k0_pay6 (F := Ideal) (iblk m c 0 t) (iblk m c 1 t) (iblk m c 2 t) (iblk m c 3 t)) (iblk m c 4 t) (iblk m c 5 t) (ix2 ⟨512 + (h.val * 64 + d.val), by omega⟩ r) = Cert.FrontRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (pos t r) ⟨512 + (h.val * 64 + d.val), by omega⟩) :=
    fun d => p8_at m c t _ r _ fun k => ent5_1 m c ⟨h.val * 64 + d.val, by omega⟩ k
  simp only [hP, blk8]

theorem point13 (c : Dev nD) (t : Fin cfg0.N) (u : Fin 2) (e p : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix4 0 u e p) = Cert.FrontRefIdeal.Read.val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix4 (bat t) ⟨2 * (t.val % 32) + u.val, by omega⟩ e p) := by
  rw [out13_at, FrontRefHand.v183_at]
  refine (p8_at m c t _ _ _ fun k => ent5_2 m c e k).trans ?_
  exact congrArg (fun s => Cert.FrontRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) s _)) (Fin.ext (by show 256 * (t.val % 32) + (u.val * 128 + p.val) = (2 * (t.val % 32) + u.val) * 128 + p.val; omega))

theorem point16 (c : Dev nD) (t : Fin cfg0.N) (u : Fin 2) (e p : Fin 128) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (ix4 0 u e p) = Cert.FrontRefIdeal.Read.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix4 (bat t) ⟨2 * (t.val % 32) + u.val, by omega⟩ e p) := by
  rw [out16_at, FrontRefHand.v186_at]
  refine (p8_at m c t _ _ _ fun k => ent5_4 m c e k).trans ?_
  exact congrArg (fun s => Cert.FrontRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) s _)) (Fin.ext (by show 256 * (t.val % 32) + (u.val * 128 + p.val) = (2 * (t.val % 32) + u.val) * 128 + p.val; omega))

theorem point14 (c : Dev nD) (t : Fin cfg0.N) (e : Fin 512) (r : Fin 256) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 e r) = Cert.FrontRefIdeal.Read.val_main_v180 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) e (pos t r)) := by
  rw [out14_at, FrontRefHand.v180_at]
  exact congrArg (· * Ideal.ofBits .f32 0x3E000000#32) (p8_at m c t _ r _ fun k => ent5_3 m c e k)

theorem point15 (c : Dev nD) (t : Fin cfg0.N) (r : Fin 256) (e : Fin 128) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r e) = Cert.FrontRefIdeal.Read.val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (pos t r) e) := by
  rw [out15_at, FrontRefHand.v190_at]
  exact p9_at m c t r _ _ fun k => ent6_0 m c k e

theorem point17 (c : Dev nD) (t : Fin cfg0.N) (r : Fin 256) (e : Fin 2048) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e) = Cert.FrontRefIdeal.Read.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨(bat t).val * 8192 + (pos t r).val, by omega⟩ e) := by
  rw [out17_at, FrontRefHand.v192_at]
  refine p9_at m c t r _ _ fun k => ?_
  by_cases he : e.val < 1024
  · exact ent6_1 m c k ⟨e.val, he⟩
  · have h := ent6_2 m c k ⟨e.val - 1024, by omega⟩
    have h1 : (⟨1152 + (e.val - 1024), by omega⟩ : Fin 2176) = ⟨128 + e.val, by omega⟩ := Fin.ext (by show 1152 + (e.val - 1024) = 128 + e.val; omega)
    have h2 : (⟨2560 + (e.val - 1024), by omega⟩ : Fin 3584) = ⟨1536 + e.val, by omega⟩ := Fin.ext (by show 2560 + (e.val - 1024) = 1536 + e.val; omega)
    rw [← h1, ← h2]
    exact h

end FrontHand
-- ==== Proof.FrontValue.lean ====
module

public import proofs.«01_k».proof.Proof.FrontPoint
public import proofs.«01_k».proof.Proof.Gen.FrontIdeal.Value
public import Idealize.ShloMosaic.Lib.Pipeline.ReadBack
public import Idealize.ShloMosaic.Lib.Claim

/-! The eight arrays the first call's kernel leaves are the reference's eight results: the blocks cover each array, and every
    block holds the reference's entries. -/

@[expose] public section

set_option maxRecDepth 16384

noncomputable section

namespace FrontHand

open Cert.FrontIdeal Cert.FrontIdeal.Gen Cert.FrontIdeal.Value Idealize.ShloMosaic Idealize.ShloMosaic.TcCoe Idealize.SL.Sem RowMath

variable (m : (ℓ : Loc nD τ sig) → Buf (Elt Ideal) ℓ)

theorem idx_out : ∀ t : Fin cfg0.N, win0_10.index t = ![t.val, 0] ∧ win0_11.index t = ![t.val / 32, 0, t.val % 32]
    ∧ win0_12.index t = ![t.val / 32, t.val % 32, 0] ∧ win0_13.index t = ![t.val / 32, t.val % 32, 0, 0]
    ∧ win0_14.index t = ![t.val / 32, 0, t.val % 32] ∧ win0_15.index t = ![t.val / 32, t.val % 32, 0]
    ∧ win0_16.index t = ![t.val / 32, t.val % 32, 0, 0] ∧ win0_17.index t = ![t.val, 0] :=
  (by decide +kernel : ∀ t : Fin grid0.N, _)

theorem emb10 (t : Fin cfg0.N) (r : Fin 256) (j : Fin 1024) : ((win0_10.blk t).view.emb (ix2 r j) : S32768x1024.Idx) = ix2 ⟨(bat t).val * 8192 + (pos t r).val, by omega⟩ j := by
  unfold bat pos
  blk_ext [idx_out t]

theorem final10 (c : Dev nD) : (dats m 0 c).arrAt 10 cfg0.N = Cert.FrontRefIdeal.Read.val_main_v187 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (y : S256x1024.Idx) = _
  have hy : (y : S256x1024.Idx) = ix2 ⟨(y 0).val, (y 0).isLt⟩ ⟨(y 1).val, (y 1).isLt⟩ :=
    funext fun a => Fin.ext (by
      match a with
      | ⟨0, _⟩ => rfl
      | ⟨1, _⟩ => rfl)
  rw [hy]
  exact (point10 m c t ⟨(y 0).val, (y 0).isLt⟩ ⟨(y 1).val, (y 1).isLt⟩).trans (congrArg _ (emb10 t _ _).symm)

theorem emb11 (t : Fin cfg0.N) (e : Fin 512) (r : Fin 256) : ((win0_11.blk t).view.emb (ix3 0 e r) : S4x512x8192.Idx) = ix3 (bat t) e (pos t r) := by
  unfold bat pos
  blk_ext [idx_out t]

theorem final11 (c : Dev nD) : (dats m 0 c).arrAt 11 cfg0.N = Cert.FrontRefIdeal.Read.val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11]
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (y : S1x512x256.Idx) = _
  have hy : (y : S1x512x256.Idx) = ix3 0 ⟨(y 1).val, (y 1).isLt⟩ ⟨(y 2).val, (y 2).isLt⟩ :=
    funext fun a => Fin.ext (by
      match a with
      | ⟨0, _⟩ => exact Nat.lt_one_iff.mp (y 0).isLt
      | ⟨1, _⟩ => rfl
      | ⟨2, _⟩ => rfl)
  rw [hy]
  exact (point11 m c t ⟨(y 1).val, (y 1).isLt⟩ ⟨(y 2).val, (y 2).isLt⟩).trans (congrArg _ (emb11 t _ _).symm)

theorem emb12 (t : Fin cfg0.N) (r : Fin 256) (e : Fin 128) : ((win0_12.blk t).view.emb (ix3 0 r e) : S4x8192x128.Idx) = ix3 (bat t) (pos t r) e := by
  unfold bat pos
  blk_ext [idx_out t]

theorem final12 (c : Dev nD) : (dats m 0 c).arrAt 12 cfg0.N = Cert.FrontRefIdeal.Read.val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (dats m 0 c).arrAt_eq_of_covers 12 _ (by decide +kernel) fun t hf y => ?_
  blk_simp
  rw [after0_12]
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (y : S1x256x128.Idx) = _
  have hy : (y : S1x256x128.Idx) = ix3 0 ⟨(y 1).val, (y 1).isLt⟩ ⟨(y 2).val, (y 2).isLt⟩ :=
    funext fun a => Fin.ext (by
      match a with
      | ⟨0, _⟩ => exact Nat.lt_one_iff.mp (y 0).isLt
      | ⟨1, _⟩ => rfl
      | ⟨2, _⟩ => rfl)
  rw [hy]
  exact (point12 m c t ⟨(y 1).val, (y 1).isLt⟩ ⟨(y 2).val, (y 2).isLt⟩).trans (congrArg _ (emb12 t _ _).symm)

theorem emb13 (t : Fin cfg0.N) (u : Fin 2) (e p : Fin 128) : ((win0_13.blk t).view.emb (ix4 0 u e p) : S4x64x128x128.Idx) = ix4 (bat t) ⟨2 * (t.val % 32) + u.val, by omega⟩ e p := by
  unfold bat
  blk_ext [idx_out t]

theorem final13 (c : Dev nD) : (dats m 0 c).arrAt 13 cfg0.N = Cert.FrontRefIdeal.Read.val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t hf y => ?_
  blk_simp
  rw [after0_13]
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (y : S1x2x128x128.Idx) = _
  have hy : (y : S1x2x128x128.Idx) = ix4 0 ⟨(y 1).val, (y 1).isLt⟩ ⟨(y 2).val, (y 2).isLt⟩ ⟨(y 3).val, (y 3).isLt⟩ :=
    funext fun a => Fin.ext (by
      match a with
      | ⟨0, _⟩ => exact Nat.lt_one_iff.mp (y 0).isLt
      | ⟨1, _⟩ => rfl
      | ⟨2, _⟩ => rfl
      | ⟨3, _⟩ => rfl)
  rw [hy]
  exact (point13 m c t ⟨(y 1).val, (y 1).isLt⟩ ⟨(y 2).val, (y 2).isLt⟩ ⟨(y 3).val, (y 3).isLt⟩).trans (congrArg _ (emb13 t _ _ _).symm)

theorem emb14 (t : Fin cfg0.N) (e : Fin 512) (r : Fin 256) : ((win0_14.blk t).view.emb (ix3 0 e r) : S4x512x8192.Idx) = ix3 (bat t) e (pos t r) := by
  unfold bat pos
  blk_ext [idx_out t]

theorem final14 (c : Dev nD) : (dats m 0 c).arrAt 14 cfg0.N = Cert.FrontRefIdeal.Read.val_main_v180 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t hf y => ?_
  blk_simp
  rw [after0_14]
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (y : S1x512x256.Idx) = _
  have hy : (y : S1x512x256.Idx) = ix3 0 ⟨(y 1).val, (y 1).isLt⟩ ⟨(y 2).val, (y 2).isLt⟩ :=
    funext fun a => Fin.ext (by
      match a with
      | ⟨0, _⟩ => exact Nat.lt_one_iff.mp (y 0).isLt
      | ⟨1, _⟩ => rfl
      | ⟨2, _⟩ => rfl)
  rw [hy]
  exact (point14 m c t ⟨(y 1).val, (y 1).isLt⟩ ⟨(y 2).val, (y 2).isLt⟩).trans (congrArg _ (emb14 t _ _).symm)

theorem emb15 (t : Fin cfg0.N) (r : Fin 256) (e : Fin 128) : ((win0_15.blk t).view.emb (ix3 0 r e) : S4x8192x128.Idx) = ix3 (bat t) (pos t r) e := by
  unfold bat pos
  blk_ext [idx_out t]

theorem final15 (c : Dev nD) : (dats m 0 c).arrAt 15 cfg0.N = Cert.FrontRefIdeal.Read.val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 15 _ (by decide +kernel) fun t hf y => ?_
  blk_simp
  rw [after0_15]
  show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (y : S1x256x128.Idx) = _
  have hy : (y : S1x256x128.Idx) = ix3 0 ⟨(y 1).val, (y 1).isLt⟩ ⟨(y 2).val, (y 2).isLt⟩ :=
    funext fun a => Fin.ext (by
      match a with
      | ⟨0, _⟩ => exact Nat.lt_one_iff.mp (y 0).isLt
      | ⟨1, _⟩ => rfl
      | ⟨2, _⟩ => rfl)
  rw [hy]
  exact (point15 m c t ⟨(y 1).val, (y 1).isLt⟩ ⟨(y 2).val, (y 2).isLt⟩).trans (congrArg _ (emb15 t _ _).symm)

theorem emb16 (t : Fin cfg0.N) (u : Fin 2) (e p : Fin 128) : ((win0_16.blk t).view.emb (ix4 0 u e p) : S4x64x128x128.Idx) = ix4 (bat t) ⟨2 * (t.val % 32) + u.val, by omega⟩ e p := by
  unfold bat
  blk_ext [idx_out t]

theorem final16 (c : Dev nD) : (dats m 0 c).arrAt 16 cfg0.N = Cert.FrontRefIdeal.Read.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 16 _ (by decide +kernel) fun t hf y => ?_
  blk_simp
  rw [after0_16]
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (y : S1x2x128x128.Idx) = _
  have hy : (y : S1x2x128x128.Idx) = ix4 0 ⟨(y 1).val, (y 1).isLt⟩ ⟨(y 2).val, (y 2).isLt⟩ ⟨(y 3).val, (y 3).isLt⟩ :=
    funext fun a => Fin.ext (by
      match a with
      | ⟨0, _⟩ => exact Nat.lt_one_iff.mp (y 0).isLt
      | ⟨1, _⟩ => rfl
      | ⟨2, _⟩ => rfl
      | ⟨3, _⟩ => rfl)
  rw [hy]
  exact (point16 m c t ⟨(y 1).val, (y 1).isLt⟩ ⟨(y 2).val, (y 2).isLt⟩ ⟨(y 3).val, (y 3).isLt⟩).trans (congrArg _ (emb16 t _ _ _).symm)

theorem emb17 (t : Fin cfg0.N) (r : Fin 256) (j : Fin 2048) : ((win0_17.blk t).view.emb (ix2 r j) : S32768x2048.Idx) = ix2 ⟨(bat t).val * 8192 + (pos t r).val, by omega⟩ j := by
  unfold bat pos
  blk_ext [idx_out t]

theorem final17 (c : Dev nD) : (dats m 0 c).arrAt 17 cfg0.N = Cert.FrontRefIdeal.Read.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 17 _ (by decide +kernel) fun t hf y => ?_
  blk_simp
  rw [after0_17]
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (y : S256x2048.Idx) = _
  have hy : (y : S256x2048.Idx) = ix2 ⟨(y 0).val, (y 0).isLt⟩ ⟨(y 1).val, (y 1).isLt⟩ :=
    funext fun a => Fin.ext (by
      match a with
      | ⟨0, _⟩ => rfl
      | ⟨1, _⟩ => rfl)
  rw [hy]
  exact (point17 m c t ⟨(y 0).val, (y 0).isLt⟩ ⟨(y 1).val, (y 1).isLt⟩).trans (congrArg _ (emb17 t _ _).symm)

end FrontHand
-- ==== Proof.FrontClaim.lean ====
module

public import proofs.«01_k».proof.Defs
public import proofs.«01_k».proof.Proof.FrontValue
public import proofs.«01_k».proof.Proof.Gen.FrontRefIdeal.Run

/-! The claim of the first call: kernel and reference run and end with the same eight arrays. -/

@[expose] public section

set_option maxRecDepth 16384

noncomputable section

namespace FrontHand

open Cert.FrontIdeal Cert.FrontIdeal.Gen Idealize.ShloMosaic Idealize.ShloMosaic.TcCoe Idealize.SL.Sem

set_option maxHeartbeats 4000000 in
theorem algebraic : Cert.algebraic_FrontIdeal_FrontRefIdeal := by
  intro m ρ m' ρ' _ hag
  refine ⟨fun c => (Cert.FrontIdeal.Gen.dats m 0 c).arrAt 10 cfg0.N, fun c => (Cert.FrontIdeal.Gen.dats m 0 c).arrAt 11 cfg0.N, fun c => (Cert.FrontIdeal.Gen.dats m 0 c).arrAt 12 cfg0.N, fun c => (Cert.FrontIdeal.Gen.dats m 0 c).arrAt 13 cfg0.N, fun c => (Cert.FrontIdeal.Gen.dats m 0 c).arrAt 14 cfg0.N, fun c => (Cert.FrontIdeal.Gen.dats m 0 c).arrAt 15 cfg0.N, fun c => (Cert.FrontIdeal.Gen.dats m 0 c).arrAt 16 cfg0.N, fun c => (Cert.FrontIdeal.Gen.dats m 0 c).arrAt 17 cfg0.N,
    Value.run_blocks (F := Ideal) m ρ, ?_⟩
  refine (θ_run Cert.FrontRefIdeal.defs _ _).mono (fun r h c => ⟨(h c).1.trans ?_,
    (h c).2.1.trans ?_,
    (h c).2.2.1.trans ?_,
    (h c).2.2.2.1.trans ?_,
    (h c).2.2.2.2.1.trans ?_,
    (h c).2.2.2.2.2.1.trans ?_,
    (h c).2.2.2.2.2.2.1.trans ?_,
    (h c).2.2.2.2.2.2.2.1.trans ?_, (h c).2.2.2.2.2.2.2.2⟩)
    (Cert.FrontRefIdeal.Value.run (F := Ideal) m' ρ')
  all_goals obtain ⟨h0, h1, h2, h3, h4, h5, h6, h7⟩ := hag c
  · refine (Cert.FrontRefIdeal.Read.val_main_v187_eq (F := Ideal) (StableHlo.launchContents m' c)).trans ?_
    show Cert.FrontRefIdeal.Read.val_main_v187 (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) = _
    rw [h0, h1, h2, h3]
    exact (final10 m c).symm
  · refine (Cert.FrontRefIdeal.Read.val_main_v176_eq (F := Ideal) (StableHlo.launchContents m' c)).trans ?_
    show Cert.FrontRefIdeal.Read.val_main_v176 (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg5)) (m' ((c.tc : Thread Cert.FrontRefIdeal.nD Cert.FrontRefIdeal.τ).loc Cert.FrontRefIdeal.main_arg6)) = _
    rw [h0, h1, h2, h3, h4, h5, h6]
    exact (final11 m c).symm
  · refine (Cert.FrontRefIdeal.Read.val_main_v189_eq (F := Ideal) (StableHlo.launchContents m' c)).trans ?_
    show Cert.FrontRefIdeal.Read.val_main_v189 (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg5)) (m' ((c.tc : Thread Cert.FrontRefIdeal.nD Cert.FrontRefIdeal.τ).loc Cert.FrontRefIdeal.main_arg7)) = _
    rw [h0, h1, h2, h3, h4, h5, h7]
    exact (final12 m c).symm
  · refine (Cert.FrontRefIdeal.Read.val_main_v183_eq (F := Ideal) (StableHlo.launchContents m' c)).trans ?_
    show Cert.FrontRefIdeal.Read.val_main_v183 (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg5)) = _
    rw [h0, h1, h2, h3, h4, h5]
    exact (final13 m c).symm
  · refine (Cert.FrontRefIdeal.Read.val_main_v180_eq (F := Ideal) (StableHlo.launchContents m' c)).trans ?_
    show Cert.FrontRefIdeal.Read.val_main_v180 (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg5)) = _
    rw [h0, h1, h2, h3, h4, h5]
    exact (final14 m c).symm
  · refine (Cert.FrontRefIdeal.Read.val_main_v190_eq (F := Ideal) (StableHlo.launchContents m' c)).trans ?_
    show Cert.FrontRefIdeal.Read.val_main_v190 (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg5)) = _
    rw [h0, h1, h2, h3, h4, h5]
    exact (final15 m c).symm
  · refine (Cert.FrontRefIdeal.Read.val_main_v186_eq (F := Ideal) (StableHlo.launchContents m' c)).trans ?_
    show Cert.FrontRefIdeal.Read.val_main_v186 (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg5)) = _
    rw [h0, h1, h2, h3, h4, h5]
    exact (final16 m c).symm
  · refine (Cert.FrontRefIdeal.Read.val_main_v192_eq (F := Ideal) (StableHlo.launchContents m' c)).trans ?_
    show Cert.FrontRefIdeal.Read.val_main_v192 (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg5)) = _
    rw [h0, h1, h2, h3, h4, h5]
    exact (final17 m c).symm

end FrontHand
-- ==== Proof.lean ====
module

public import proofs.«01_k».proof.Defs
public import proofs.«01_k».proof.Proof.Gen.AttnA
public import proofs.«01_k».proof.Proof.Gen.AttnA.Skeleton
public import proofs.«01_k».proof.Proof.Gen.AttnA.Loops
public import proofs.«01_k».proof.Proof.Gen.AttnA.Launch
public import proofs.«01_k».proof.Proof.Gen.AttnA.Points
public import proofs.«01_k».proof.Proof.Gen.AttnA.Frame
public import proofs.«01_k».proof.Proof.Gen.AttnAIdeal
public import proofs.«01_k».proof.Proof.Gen.AttnAIdeal.Skeleton
public import proofs.«01_k».proof.Proof.Gen.AttnAIdeal.Loops
public import proofs.«01_k».proof.Proof.Gen.AttnAIdeal.Launch
public import proofs.«01_k».proof.Proof.Gen.AttnAIdeal.Points
public import proofs.«01_k».proof.Proof.Gen.AttnAIdeal.Frame
public import proofs.«01_k».proof.Proof.Gen.AttnARefIdeal
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackRefIdeal
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontRefIdeal
public import proofs.«01_k».proof.Proof.Gen.Pre_finite_qk
public import proofs.«01_k».proof.Proof.Gen.AttnAIdeal.Value
public import proofs.«01_k».proof.Proof.Gen.AttnARefIdeal.Run
public import proofs.«01_k».proof.Proof.Gen.AttnARefIdeal.Read
public import proofs.«01_k».proof.Proof.Gen.BackIdeal.Value
public import proofs.«01_k».proof.Proof.Gen.BackRefIdeal.Run
public import proofs.«01_k».proof.Proof.Gen.BackRefIdeal.Read
public import proofs.«01_k».proof.Proof.Gen.FrontIdeal.Value
public import proofs.«01_k».proof.Proof.Gen.FrontRefIdeal.Run
public import proofs.«01_k».proof.Proof.Gen.FrontRefIdeal.Read
public import proofs.«01_k».proof.Proof.Gen.AttnB
public import proofs.«01_k».proof.Proof.Gen.AttnB.Skeleton
public import proofs.«01_k».proof.Proof.Gen.AttnB.Launch
public import proofs.«01_k».proof.Proof.Gen.AttnB.Points
public import proofs.«01_k».proof.Proof.Gen.AttnB.Frame
public import proofs.«01_k».proof.Proof.Gen.AttnBIdeal
public import proofs.«01_k».proof.Proof.Gen.AttnBIdeal.Skeleton
public import proofs.«01_k».proof.Proof.Gen.AttnBIdeal.Launch
public import proofs.«01_k».proof.Proof.Gen.AttnBIdeal.Points
public import proofs.«01_k».proof.Proof.Gen.AttnBIdeal.Frame
public import proofs.«01_k».proof.Proof.Gen.AttnBIdeal.Value
public import Idealize.ShloMosaic.Lib.Quiescent
public import proofs.«01_k».proof.Proof.AttnAClaim
public import proofs.«01_k».proof.Proof.BackClaim
public import proofs.«01_k».proof.Proof.FrontClaim
public import Idealize.ShloMosaic.Adequacy
public import Idealize.ShloMosaic.Init

@[expose] public section

noncomputable section

namespace Cert.Proof

open Idealize.ShloMosaic Idealize.SL.Sem Cert.AttnA

/-- The attention reference runs, keeps its arguments and leaves every counter at zero. -/
theorem attnARef_frame : Cert.quiescent_AttnARefIdeal := fun m ρ _ =>
  (θ_run (Cert.AttnARefIdeal.defs (F := Ideal)) _ _).mono
    (fun r h => ⟨fun c => (h c).2, Idealize.ShloMosaic.sem_eq_zero_of_no_sems (by decide) r.2⟩)
    (Cert.AttnARefIdeal.Value.run (F := Ideal) m ρ)

/-- The reference of the layer's second half runs, keeps its arguments and leaves every counter at zero. -/
theorem backRef_frame : Cert.quiescent_BackRefIdeal := fun m ρ _ =>
  (θ_run (Cert.BackRefIdeal.defs (F := Ideal)) _ _).mono
    (fun r h => ⟨fun c => (h c).2, Idealize.ShloMosaic.sem_eq_zero_of_no_sems (by decide) r.2⟩)
    (Cert.BackRefIdeal.Value.run (F := Ideal) m ρ)

/-- The reference of the layer's first half runs, keeps its arguments and leaves every counter at zero. -/
theorem frontRef_frame : Cert.quiescent_FrontRefIdeal := fun m ρ _ =>
  (θ_run (Cert.FrontRefIdeal.defs (F := Ideal)) _ _).mono
    (fun r h => ⟨fun c => (h c).2.2.2.2.2.2.2.2, Idealize.ShloMosaic.sem_eq_zero_of_no_sems (by decide) r.2⟩)
    (Cert.FrontRefIdeal.Value.run (F := Ideal) m ρ)

theorem claim : Cert.Claim := ⟨Cert.Front.Gen.facts, Cert.FrontIdeal.Gen.facts, Cert.FrontRefIdeal.Gen.facts, Cert.AttnA.Gen.facts, Cert.AttnAIdeal.Gen.facts, Cert.AttnARefIdeal.Gen.facts, Cert.Back.Gen.facts, Cert.BackIdeal.Gen.facts, Cert.BackRefIdeal.Gen.facts, Cert.AttnB.Gen.facts, Cert.AttnBIdeal.Gen.facts, Cert.Pre_finite_qk.Gen.facts, by
  exact ⟨fun m ρ _ => Cert.Front.Gen.frame m ρ,
    fun m ρ _ => Cert.FrontIdeal.Gen.frame m ρ,
    fun m ρ _ => frontRef_frame m ρ trivial,
    fun m ρ _ => Cert.AttnA.Gen.frame m ρ,
    fun m ρ _ => Cert.AttnAIdeal.Gen.frame m ρ,
    fun m ρ _ => Cert.AttnAIdeal.Gen.frame m ρ,
    fun m ρ _ => attnARef_frame m ρ trivial,
    fun m ρ _ => attnARef_frame m ρ trivial,
    fun m ρ _ => Cert.Back.Gen.frame m ρ,
    fun m ρ _ => Cert.BackIdeal.Gen.frame m ρ,
    fun m ρ _ => backRef_frame m ρ trivial,
    fun m ρ _ => Cert.AttnB.Gen.frame m ρ,
    fun m ρ _ => Cert.AttnBIdeal.Gen.frame m ρ,
    trivial, FrontHand.algebraic, trivial, AttnAHand.algebraic, trivial, BackHand.algebraic, trivial⟩⟩

end Cert.Proof

end
